-- ==== Defs.lean ====
def Pre_Kernel [hPre_edges_in_range : Cert.Pre_edges_in_range.Facts] (m : (ℓ : Loc Cert.Kernel.nD Cert.Kernel.τ Cert.Kernel.sig) → Buf (Elt Bits) ℓ) : Prop :=
  ∀ c : Dev Cert.Kernel.nD,
    (Cert.Pre_edges_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_edges_in_range : Cert.Pre_edges_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_edges_in_range : Cert.Pre_edges_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_edges_in_range : Cert.Pre_edges_in_range.Facts) (hPre_in_range : Cert.Pre_in_range.Facts),
    quiescent_Kernel (hKernel := hKernel) (hPre_edges_in_range := hPre_edges_in_range)
    ∧ quiescent_KernelIdeal (hKernelIdeal := hKernelIdeal) (hPre_edges_in_range := hPre_edges_in_range)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_edges_in_range.lean ====
abbrev S100000 : Shape := ⟨1, ![100000]⟩
abbrev S2x3200000 : Shape := ⟨2, ![2, 3200000]⟩
abbrev S_ : Shape := ⟨0, ![]⟩

class Facts : Prop where
  bcast_S_S2x3200000 : S_.BroadcastsInDim S2x3200000 (![] : Fin 0 → Fin S2x3200000.rank)
  reducesTo_S2x3200000_S_d0_1 : S2x3200000.ReducesTo [0, 1] S_
  h_S_ : 0 < S_.numel

variable [Facts]

def fn {F : FTy → Type} [FloatOps F] (main_arg0 : FVec F S100000 .f32) (main_arg1 : IVec S2x3200000 32) (main_arg2 : IVec S2x3200000 32) : IVec S_ 1 :=
  let main_c : IVec S_ 32 := constantI S_ 32 0#32
  let main_v0 : IVec S2x3200000 32 := broadcastInDim S2x3200000 ![] bcast_S_S2x3200000 main_c
  let main_v1 : IVec S2x3200000 1 := cmpi .sge main_arg1 main_v0
  let main_c_0 : IVec S_ 1 := constantI S_ 1 1#1
  let main_v2 : IVec S_ 1 := (fun x v => Host.reduce IntOp.andi x v reducesTo_S2x3200000_S_d0_1 h_S_) main_v1 main_c_0
  let main_c_1 : IVec S_ 32 := constantI S_ 32 100000#32
  let main_v3 : IVec S2x3200000 32 := broadcastInDim S2x3200000 ![] bcast_S_S2x3200000 main_c_1
  let main_v4 : IVec S2x3200000 1 := cmpi .slt main_arg1 main_v3
  let main_c_2 : IVec S_ 1 := constantI S_ 1 1#1
  let main_v5 : IVec S_ 1 := (fun x v => Host.reduce IntOp.andi x v reducesTo_S2x3200000_S_d0_1 h_S_) main_v4 main_c_2
  let main_v6 : IVec S_ 1 := andi main_v2 main_v5
  let main_c_3 : IVec S_ 32 := constantI S_ 32 0#32
  let main_v7 : IVec S2x3200000 32 := broadcastInDim S2x3200000 ![] bcast_S_S2x3200000 main_c_3
  let main_v8 : IVec S2x3200000 1 := cmpi .sge main_arg2 main_v7
  let main_c_4 : IVec S_ 1 := constantI S_ 1 1#1
  let main_v9 : IVec S_ 1 := (fun x v => Host.reduce IntOp.andi x v reducesTo_S2x3200000_S_d0_1 h_S_) main_v8 main_c_4
  let main_v10 : IVec S_ 1 := andi main_v6 main_v9
  let main_c_5 : IVec S_ 32 := constantI S_ 32 100000#32
  let main_v11 : IVec S2x3200000 32 := broadcastInDim S2x3200000 ![] bcast_S_S2x3200000 main_c_5
  let main_v12 : IVec S2x3200000 1 := cmpi .slt main_arg2 main_v11
  let main_c_6 : IVec S_ 1 := constantI S_ 1 1#1
  let main_v13 : IVec S_ 1 := (fun x v => Host.reduce IntOp.andi x v reducesTo_S2x3200000_S_d0_1 h_S_) main_v12 main_c_6
  let main_v14 : IVec S_ 1 := andi main_v10 main_v13
  main_v14
-- ==== Pre_in_range.lean ====
abbrev S100000 : Shape := ⟨1, ![100000]⟩
abbrev S2x3200000 : Shape := ⟨2, ![2, 3200000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S2x3200000 : S_.BroadcastsInDim S2x3200000 (![] : Fin 0 → Fin S2x3200000.rank)
  reducesTo_S2x3200000_S_d0_1 : S2x3200000.ReducesTo [0, 1] S_

variable [Facts]

def fn_part1 {F : FTy → Type} [FloatOps F] (main_arg2 : IVec S2x3200000 32) (main_v14 : IVec S_ 1) (main_c_6 : IVec S_ 32) : IVec S_ 1 :=
  let main_v15 : IVec S2x3200000 32 := broadcastInDim S2x3200000 ![] bcast_S_S2x3200000 main_c_6
  let main_v16 : IVec S2x3200000 1 := cmpi .sge main_arg2 main_v15
  let main_c_7 : IVec S_ 1 := constantI S_ 1 1#1
  let main_v17 : IVec S_ 1 := (fun x v => Host.reduce IntOp.andi x v reducesTo_S2x3200000_S_d0_1 h_S_) main_v16 main_c_7
  let main_v18 : IVec S_ 1 := andi main_v14 main_v17
  let main_c_8 : IVec S_ 32 := constantI S_ 32 100000#32
  let main_v19 : IVec S2x3200000 32 := broadcastInDim S2x3200000 ![] bcast_S_S2x3200000 main_c_8
  let main_v20 : IVec S2x3200000 1 := cmpi .slt main_arg2 main_v19
  let main_c_9 : IVec S_ 1 := constantI S_ 1 1#1
  let main_v21 : IVec S_ 1 := (fun x v => Host.reduce IntOp.andi x v reducesTo_S2x3200000_S_d0_1 h_S_) main_v20 main_c_9
  let main_v22 : IVec S_ 1 := andi main_v18 main_v21
  main_v22

def fn {F : FTy → Type} [FloatOps F] (main_arg0 : FVec F S100000 .f32) (main_arg1 : IVec S2x3200000 32) (main_arg2 : IVec S2x3200000 32) : IVec S_ 1 :=
  let main_cst : FVec F S_ .f32 := constant S_ .f32 0x00000000#32
  let main_v0 : FVec F S100000 .f32 := broadcastInDim S100000 ![] bcast_S_S100000 main_cst
  let main_v1 : IVec S100000 1 := cmpf .oge main_arg0 main_v0
  let main_c : IVec S_ 1 := constantI S_ 1 1#1
  let main_v2 : IVec S_ 1 := (fun x v => Host.reduce IntOp.andi x v reducesTo_S100000_S_d0 h_S_) main_v1 main_c
  let main_cst_0 : FVec F S_ .f32 := constant S_ .f32 0x3F800000#32
  let main_v3 : FVec F S100000 .f32 := broadcastInDim S100000 ![] bcast_S_S100000 main_cst_0
  let main_v4 : IVec S100000 1 := cmpf .olt main_arg0 main_v3
  let main_c_1 : IVec S_ 1 := constantI S_ 1 1#1
  let main_v5 : IVec S_ 1 := (fun x v => Host.reduce IntOp.andi x v reducesTo_S100000_S_d0 h_S_) main_v4 main_c_1
  let main_v6 : IVec S_ 1 := andi main_v2 main_v5
  let main_c_2 : IVec S_ 32 := constantI S_ 32 0#32
  let main_v7 : IVec S2x3200000 32 := broadcastInDim S2x3200000 ![] bcast_S_S2x3200000 main_c_2
  let main_v8 : IVec S2x3200000 1 := cmpi .sge main_arg1 main_v7
  let main_c_3 : IVec S_ 1 := constantI S_ 1 1#1
  let main_v9 : IVec S_ 1 := (fun x v => Host.reduce IntOp.andi x v reducesTo_S2x3200000_S_d0_1 h_S_) main_v8 main_c_3
  let main_v10 : IVec S_ 1 := andi main_v6 main_v9
  let main_c_4 : IVec S_ 32 := constantI S_ 32 100000#32
  let main_v11 : IVec S2x3200000 32 := broadcastInDim S2x3200000 ![] bcast_S_S2x3200000 main_c_4
  let main_v12 : IVec S2x3200000 1 := cmpi .slt main_arg1 main_v11
  let main_c_5 : IVec S_ 1 := constantI S_ 1 1#1
  let main_v13 : IVec S_ 1 := (fun x v => Host.reduce IntOp.andi x v reducesTo_S2x3200000_S_d0_1 h_S_) main_v12 main_c_5
  let main_v14 : IVec S_ 1 := andi main_v10 main_v13
  let main_c_6 : IVec S_ 32 := constantI S_ 32 0#32
  fn_part1 (F := F) main_arg2 main_v14 main_c_6
-- ==== Kernel.lean ====
abbrev S100000 : Shape := ⟨1, ![100000]⟩
abbrev S2x3200000 : Shape := ⟨2, ![2, 3200000]⟩
abbrev S_ : Shape := ⟨0, ![]⟩
abbrev S352 : Shape := ⟨1, ![352]⟩
abbrev S100352 : Shape := ⟨1, ![100352]⟩
abbrev S3136x32 : Shape := ⟨2, ![3136, 32]⟩
abbrev S32x3136 : Shape := ⟨2, ![32, 3136]⟩
abbrev S1x3136 : Shape := ⟨2, ![1, 3136]⟩
abbrev S3136 : Shape := ⟨1, ![3136]⟩
abbrev S3211264 : Shape := ⟨1, ![3211264]⟩
abbrev S2x2560 : Shape := ⟨2, ![2, 2560]⟩
abbrev S16 : Shape := ⟨1, ![16]⟩
abbrev S1x16 : Shape := ⟨2, ![1, 16]⟩
abbrev S1x1 : Shape := ⟨2, ![1, 1]⟩
abbrev S1x100000 : Shape := ⟨2, ![1, 100000]⟩
abbrev S1 : Shape := ⟨1, ![1]⟩

abbrev nBuf : Table → Nat
  | .hbm => 12
  | .local .tc .vmem => 3
  | .local .tc .smem => 1
  | .local .scVector .vmem => 4
  | _ => 0

abbrev bufTy : (tb : Table) → Fin (nBuf tb) → BufTy
  | .hbm, ⟨0, _⟩ => ⟨S100000, .f32⟩
  | .hbm, ⟨1, _⟩ => ⟨S2x3200000, .i32⟩
  | .hbm, ⟨2, _⟩ => ⟨S2x3200000, .i32⟩
  | .hbm, ⟨3, _⟩ => ⟨S_, .f32⟩
  | .hbm, ⟨4, _⟩ => ⟨S352, .f32⟩
  | .hbm, ⟨5, _⟩ => ⟨S100352, .f32⟩
  | .hbm, ⟨6, _⟩ => ⟨S3136x32, .f32⟩
  | .hbm, ⟨7, _⟩ => ⟨S32x3136, .f32⟩
  | .hbm, ⟨8, _⟩ => ⟨S1x3136, .i32⟩
  | .hbm, ⟨9, _⟩ => ⟨S3211264, .i32⟩
  | .hbm, ⟨10, _⟩ => ⟨S1x1, .f32⟩
  | .hbm, ⟨11, _⟩ => ⟨S_, .f32⟩
  | .local .tc .vmem, ⟨0, _⟩ => ⟨S32x3136, .f32⟩
  | .local .tc .vmem, ⟨1, _⟩ => ⟨S1x3136, .i32⟩
  | .local .tc .vmem, ⟨2, _⟩ => ⟨S3211264, .i32⟩
  | .local .tc .smem, ⟨0, _⟩ => ⟨S1x1, .f32⟩
  | .local .scVector .vmem, ⟨0, _⟩ => ⟨S100352, .i32⟩
  | .local .scVector .vmem, ⟨1, _⟩ => ⟨S3136, .i32⟩
  | .local .scVector .vmem, ⟨2, _⟩ => ⟨S2x2560, .i32⟩
  | .local .scVector .vmem, ⟨3, _⟩ => ⟨S2x2560, .i32⟩
  | _, _ => ⟨S100000, .f32⟩

abbrev bufScoped : (cs : CoreSpace) → Fin (nBuf (.local .tc cs)) → Bool
  | .vmem, ⟨0, _⟩ => true
  | .vmem, ⟨1, _⟩ => true
  | .vmem, ⟨2, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => false
  | ⟨3, _⟩ => false
  | ⟨4, _⟩ => false
  | ⟨5, _⟩ => false
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_arg1_scv : Ref sig .scVector := ⟨.hbm, 1, rfl⟩
abbrev main_arg2_scv : Ref sig .scVector := ⟨.hbm, 2, rfl⟩
abbrev main_v4_scv : Ref sig .scVector := ⟨.hbm, 8, rfl⟩
abbrev main_v5_scv : Ref sig .scVector := ⟨.hbm, 9, rfl⟩
abbrev cc0_stg0_0 : Ref sig .tc := ⟨.vmem, 0, rfl⟩
abbrev cc0_stg1_0 : Ref sig .tc := ⟨.vmem, 1, rfl⟩
abbrev cc2_stg0_0 : Ref sig .tc := ⟨.vmem, 2, rfl⟩
abbrev cc2_stg1_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc2_sem0_0 : DmaSem sig := 6
abbrev cc2_sem1_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S32x3136 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3136 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![2, 16], ![false, false]⟩

def k1_off1 (i : grid1.Coords) (c0_i32_1 : BitVec 32) : Fin 2 → Nat :=
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v5 : BitVec 32 := Scalar.addi v1 c0_i32_1
  let c2560_i32 : BitVec 32 := 2560#32
  let v6 : BitVec 32 := Scalar.muli v5 c2560_i32
  ![0, v6.toNat]
@[reducible] def k1_t1_loop : Scf.Loop 32 :=
  let c0_i32_9 : BitVec 32 := 0#32
  let c6272_i32 : BitVec 32 := 6272#32
  let v14 : BitVec 32 := Scalar.addi c0_i32_9 c6272_i32
  let c1_i32_10 : BitVec 32 := 1#32
  ⟨c0_i32_9, v14, c1_i32_10⟩
def k1_off2 (k1_t1 : Fin k1_t1_loop.trips) : Fin 1 → Nat :=
  let c0_i32_31 : BitVec 32 := 0#32
  let c0_i32_9 : BitVec 32 := 0#32
  let c1_i32_10 : BitVec 32 := 1#32
  let arg12 : BitVec 32 := Scf.iv c0_i32_9 c1_i32_10 k1_t1
  let c1_i32_30 : BitVec 32 := 1#32
  let v29 : BitVec 32 := Scalar.muli arg12 c1_i32_30
  let v30 : BitVec 32 := Scalar.addi c0_i32_31 v29
  let c16_i32 : BitVec 32 := 16#32
  let v31 : BitVec 32 := Scalar.muli v30 c16_i32
  let v32 : Index := Scalar.indexCast v31
  ![v32.toNat]
@[reducible] def k1_t2_loop : Scf.Loop 32 :=
  let c0_i32_14 : BitVec 32 := 0#32
  let c20_i32 : BitVec 32 := 20#32
  let v16 : BitVec 32 := Scalar.addi c0_i32_14 c20_i32
  let c1_i32_15 : BitVec 32 := 1#32
  ⟨c0_i32_14, v16, c1_i32_15⟩
def k1_cond1 (i : grid1.Coords) (k1_t2 : Fin k1_t2_loop.trips) : BitVec 1 :=
  let c2_i32_30 : BitVec 32 := 2#32
  let c0_i32_14 : BitVec 32 := 0#32
  let c1_i32_15 : BitVec 32 := 1#32
  let arg12 : BitVec 32 := Scf.iv c0_i32_14 c1_i32_15 k1_t2
  let v29 : BitVec 32 := Scalar.muli c2_i32_30 arg12
  let c39_i32 : BitVec 32 := 39#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let c1_i32 : BitVec 32 := 1#32
  let c0_i32 : BitVec 32 := 0#32
  let v3 : BitVec 32 := Scalar.select v2 c1_i32 c0_i32
  let v4 : BitVec 32 := Scalar.addi c39_i32 v3
  let v30 : BitVec 1 := Scalar.cmpi .slt v29 v4
  let v31 : BitVec 32 := Scalar.extui v30
  let c0_i32_31 : BitVec 32 := 0#32
  let v32 : BitVec 1 := Scalar.cmpi .ne v31 c0_i32_31
  v32

@[reducible] def k1_t3_loop : Scf.Loop 32 :=
  let c0_i32_42 : BitVec 32 := 0#32
  let c160_i32 : BitVec 32 := 160#32
  let v47 : BitVec 32 := Scalar.addi c0_i32_42 c160_i32
  let c1_i32_43 : BitVec 32 := 1#32
  ⟨c0_i32_42, v47, c1_i32_43⟩
def k1_off3 (k1_t3 : Fin k1_t3_loop.trips) : Fin 2 → Nat :=
  let c1_i32_47 : BitVec 32 := 1#32
  let v51 : Index := Scalar.indexCast c1_i32_47
  let c0_i32_46 : BitVec 32 := 0#32
  let c0_i32_42 : BitVec 32 := 0#32
  let c1_i32_43 : BitVec 32 := 1#32
  let arg14 : BitVec 32 := Scf.iv c0_i32_42 c1_i32_43 k1_t3
  let c1_i32_45 : BitVec 32 := 1#32
  let v48 : BitVec 32 := Scalar.muli arg14 c1_i32_45
  let v49 : BitVec 32 := Scalar.addi c0_i32_46 v48
  let c16_i32 : BitVec 32 := 16#32
  let v50 : BitVec 32 := Scalar.muli v49 c16_i32
  let v52 : Index := Scalar.indexCast v50
  ![1, v52.toNat]
def k1_off4 (k1_t3 : Fin k1_t3_loop.trips) : Fin 2 → Nat :=
  let c0_i32_49 : BitVec 32 := 0#32
  let v55 : Index := Scalar.indexCast c0_i32_49
  let c0_i32_46 : BitVec 32 := 0#32
  let c0_i32_42 : BitVec 32 := 0#32
  let c1_i32_43 : BitVec 32 := 1#32
  let arg14 : BitVec 32 := Scf.iv c0_i32_42 c1_i32_43 k1_t3
  let c1_i32_45 : BitVec 32 := 1#32
  let v48 : BitVec 32 := Scalar.muli arg14 c1_i32_45
  let v49 : BitVec 32 := Scalar.addi c0_i32_46 v48
  let c16_i32_48 : BitVec 32 := 16#32
  let v54 : BitVec 32 := Scalar.muli v49 c16_i32_48
  let v56 : Index := Scalar.indexCast v54
  ![0, v56.toNat]

def k1_chk1 (i : grid1.Coords) (k1_t2 : Fin k1_t2_loop.trips) (v59 : IVec S16 32) : Prop :=
  (∀ (k1_h1 : k1_cond1 i k1_t2 = 1#1), ∀ a x, ((![v59] : Fin 1 → IVec S16 32) a x).toNat < S3136.size a)
theorem k1_idx1_inb : ∀ (i : grid1.Coords) (k1_t2 : Fin k1_t2_loop.trips) (v59 : IVec S16 32) (k1_hw1 : k1_chk1 i k1_t2 v59), ∀ (k1_h1 : k1_cond1 i k1_t2 = 1#1), ∀ a x, ((![v59] : Fin 1 → IVec S16 32) a x).toNat < S3136.size a := fun i k1_t2 v59 k1_hw1 k1_h1 => k1_hw1 k1_h1

def k1_chk2 (i : grid1.Coords) (k1_t2 : Fin k1_t2_loop.trips) (v57 : IVec S16 32) : Prop :=
  (∀ (k1_h1 : k1_cond1 i k1_t2 = 1#1), ∀ a x, ((![v57] : Fin 1 → IVec S16 32) a x).toNat < S100352.size a)
theorem k1_idx2_inb : ∀ (i : grid1.Coords) (k1_t2 : Fin k1_t2_loop.trips) (v57 : IVec S16 32) (k1_hw2 : k1_chk2 i k1_t2 v57), ∀ (k1_h1 : k1_cond1 i k1_t2 = 1#1), ∀ a x, ((![v57] : Fin 1 → IVec S16 32) a x).toNat < S100352.size a := fun i k1_t2 v57 k1_hw2 k1_h1 => k1_hw2 k1_h1
def k1_cond2 (i : grid1.Coords) (k1_t2 : Fin k1_t2_loop.trips) : BitVec 1 :=
  let c2_i32_30 : BitVec 32 := 2#32
  let c0_i32_14 : BitVec 32 := 0#32
  let c1_i32_15 : BitVec 32 := 1#32
  let arg12 : BitVec 32 := Scf.iv c0_i32_14 c1_i32_15 k1_t2
  let v29 : BitVec 32 := Scalar.muli c2_i32_30 arg12
  let c2_i32_32 : BitVec 32 := 2#32
  let v33 : BitVec 32 := Scalar.addi v29 c2_i32_32
  let c39_i32 : BitVec 32 := 39#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let c1_i32 : BitVec 32 := 1#32
  let c0_i32 : BitVec 32 := 0#32
  let v3 : BitVec 32 := Scalar.select v2 c1_i32 c0_i32
  let v4 : BitVec 32 := Scalar.addi c39_i32 v3
  let v34 : BitVec 1 := Scalar.cmpi .slt v33 v4
  let v35 : BitVec 32 := Scalar.extui v34
  let c0_i32_33 : BitVec 32 := 0#32
  let v36 : BitVec 1 := Scalar.cmpi .ne v35 c0_i32_33
  v36

def k1_off5 (i : grid1.Coords) (k1_t2 : Fin k1_t2_loop.trips) : Fin 2 → Nat :=
  let c0_i32_41 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_30 : BitVec 32 := 2#32
  let c0_i32_14 : BitVec 32 := 0#32
  let c1_i32_15 : BitVec 32 := 1#32
  let arg12 : BitVec 32 := Scf.iv c0_i32_14 c1_i32_15 k1_t2
  let v29 : BitVec 32 := Scalar.muli c2_i32_30 arg12
  let c2_i32_38 : BitVec 32 := 2#32
  let v45 : BitVec 32 := Scalar.addi v29 c2_i32_38
  let c32_i32_39 : BitVec 32 := 32#32
  let v46 : BitVec 32 := Scalar.muli v45 c32_i32_39
  let v47 : BitVec 32 := Scalar.addi v1 v46
  let c2560_i32_40 : BitVec 32 := 2560#32
  let v48 : BitVec 32 := Scalar.muli v47 c2560_i32_40
  ![0, v48.toNat]
def k1_cond3 (i : grid1.Coords) (k1_t2 : Fin k1_t2_loop.trips) : BitVec 1 :=
  let c2_i32_30 : BitVec 32 := 2#32
  let c0_i32_14 : BitVec 32 := 0#32
  let c1_i32_15 : BitVec 32 := 1#32
  let arg12 : BitVec 32 := Scf.iv c0_i32_14 c1_i32_15 k1_t2
  let v29 : BitVec 32 := Scalar.muli c2_i32_30 arg12
  let c1_i32_34 : BitVec 32 := 1#32
  let v37 : BitVec 32 := Scalar.addi v29 c1_i32_34
  let c39_i32 : BitVec 32 := 39#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let c1_i32 : BitVec 32 := 1#32
  let c0_i32 : BitVec 32 := 0#32
  let v3 : BitVec 32 := Scalar.select v2 c1_i32 c0_i32
  let v4 : BitVec 32 := Scalar.addi c39_i32 v3
  let v38 : BitVec 1 := Scalar.cmpi .slt v37 v4
  let v39 : BitVec 32 := Scalar.extui v38
  let c0_i32_35 : BitVec 32 := 0#32
  let v40 : BitVec 1 := Scalar.cmpi .ne v39 c0_i32_35
  v40

@[reducible] def k1_t4_loop : Scf.Loop 32 :=
  let c0_i32_42 : BitVec 32 := 0#32
  let c160_i32 : BitVec 32 := 160#32
  let v47 : BitVec 32 := Scalar.addi c0_i32_42 c160_i32
  let c1_i32_43 : BitVec 32 := 1#32
  ⟨c0_i32_42, v47, c1_i32_43⟩
def k1_off6 (k1_t4 : Fin k1_t4_loop.trips) : Fin 2 → Nat :=
  let c1_i32_47 : BitVec 32 := 1#32
  let v51 : Index := Scalar.indexCast c1_i32_47
  let c0_i32_46 : BitVec 32 := 0#32
  let c0_i32_42 : BitVec 32 := 0#32
  let c1_i32_43 : BitVec 32 := 1#32
  let arg14 : BitVec 32 := Scf.iv c0_i32_42 c1_i32_43 k1_t4
  let c1_i32_45 : BitVec 32 := 1#32
  let v48 : BitVec 32 := Scalar.muli arg14 c1_i32_45
  let v49 : BitVec 32 := Scalar.addi c0_i32_46 v48
  let c16_i32 : BitVec 32 := 16#32
  let v50 : BitVec 32 := Scalar.muli v49 c16_i32
  let v52 : Index := Scalar.indexCast v50
  ![1, v52.toNat]
def k1_off7 (k1_t4 : Fin k1_t4_loop.trips) : Fin 2 → Nat :=
  let c0_i32_49 : BitVec 32 := 0#32
  let v55 : Index := Scalar.indexCast c0_i32_49
  let c0_i32_46 : BitVec 32 := 0#32
  let c0_i32_42 : BitVec 32 := 0#32
  let c1_i32_43 : BitVec 32 := 1#32
  let arg14 : BitVec 32 := Scf.iv c0_i32_42 c1_i32_43 k1_t4
  let c1_i32_45 : BitVec 32 := 1#32
  let v48 : BitVec 32 := Scalar.muli arg14 c1_i32_45
  let v49 : BitVec 32 := Scalar.addi c0_i32_46 v48
  let c16_i32_48 : BitVec 32 := 16#32
  let v54 : BitVec 32 := Scalar.muli v49 c16_i32_48
  let v56 : Index := Scalar.indexCast v54
  ![0, v56.toNat]

def k1_chk3 (i : grid1.Coords) (k1_t2 : Fin k1_t2_loop.trips) (v59 : IVec S16 32) : Prop :=
  (∀ (k1_h3 : k1_cond3 i k1_t2 = 1#1), ∀ a x, ((![v59] : Fin 1 → IVec S16 32) a x).toNat < S3136.size a)
theorem k1_idx3_inb : ∀ (i : grid1.Coords) (k1_t2 : Fin k1_t2_loop.trips) (v59 : IVec S16 32) (k1_hw3 : k1_chk3 i k1_t2 v59), ∀ (k1_h3 : k1_cond3 i k1_t2 = 1#1), ∀ a x, ((![v59] : Fin 1 → IVec S16 32) a x).toNat < S3136.size a := fun i k1_t2 v59 k1_hw3 k1_h3 => k1_hw3 k1_h3

def k1_chk4 (i : grid1.Coords) (k1_t2 : Fin k1_t2_loop.trips) (v57 : IVec S16 32) : Prop :=
  (∀ (k1_h3 : k1_cond3 i k1_t2 = 1#1), ∀ a x, ((![v57] : Fin 1 → IVec S16 32) a x).toNat < S100352.size a)
theorem k1_idx4_inb : ∀ (i : grid1.Coords) (k1_t2 : Fin k1_t2_loop.trips) (v57 : IVec S16 32) (k1_hw4 : k1_chk4 i k1_t2 v57), ∀ (k1_h3 : k1_cond3 i k1_t2 = 1#1), ∀ a x, ((![v57] : Fin 1 → IVec S16 32) a x).toNat < S100352.size a := fun i k1_t2 v57 k1_hw4 k1_h3 => k1_hw4 k1_h3
def k1_cond4 (i : grid1.Coords) (k1_t2 : Fin k1_t2_loop.trips) : BitVec 1 :=
  let c2_i32_30 : BitVec 32 := 2#32
  let c0_i32_14 : BitVec 32 := 0#32
  let c1_i32_15 : BitVec 32 := 1#32
  let arg12 : BitVec 32 := Scf.iv c0_i32_14 c1_i32_15 k1_t2
  let v29 : BitVec 32 := Scalar.muli c2_i32_30 arg12
  let c3_i32 : BitVec 32 := 3#32
  let v41 : BitVec 32 := Scalar.addi v29 c3_i32
  let c39_i32 : BitVec 32 := 39#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let c1_i32 : BitVec 32 := 1#32
  let c0_i32 : BitVec 32 := 0#32
  let v3 : BitVec 32 := Scalar.select v2 c1_i32 c0_i32
  let v4 : BitVec 32 := Scalar.addi c39_i32 v3
  let v42 : BitVec 1 := Scalar.cmpi .slt v41 v4
  let v43 : BitVec 32 := Scalar.extui v42
  let c0_i32_36 : BitVec 32 := 0#32
  let v44 : BitVec 1 := Scalar.cmpi .ne v43 c0_i32_36
  v44

def k1_off8 (i : grid1.Coords) (k1_t2 : Fin k1_t2_loop.trips) : Fin 2 → Nat :=
  let c0_i32_41 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_30 : BitVec 32 := 2#32
  let c0_i32_14 : BitVec 32 := 0#32
  let c1_i32_15 : BitVec 32 := 1#32
  let arg12 : BitVec 32 := Scf.iv c0_i32_14 c1_i32_15 k1_t2
  let v29 : BitVec 32 := Scalar.muli c2_i32_30 arg12
  let c3_i32_38 : BitVec 32 := 3#32
  let v45 : BitVec 32 := Scalar.addi v29 c3_i32_38
  let c32_i32_39 : BitVec 32 := 32#32
  let v46 : BitVec 32 := Scalar.muli v45 c32_i32_39
  let v47 : BitVec 32 := Scalar.addi v1 v46
  let c2560_i32_40 : BitVec 32 := 2560#32
  let v48 : BitVec 32 := Scalar.muli v47 c2560_i32_40
  ![0, v48.toNat]
@[reducible] def k1_t5_loop : Scf.Loop 32 :=
  let c0_i32_26 : BitVec 32 := 0#32
  let c20_i32_27 : BitVec 32 := 20#32
  let v26 : BitVec 32 := Scalar.addi c0_i32_26 c20_i32_27
  let c1_i32_28 : BitVec 32 := 1#32
  ⟨c0_i32_26, v26, c1_i32_28⟩
def k1_cond5 (i : grid1.Coords) (k1_t5 : Fin k1_t5_loop.trips) : BitVec 1 :=
  let c2_i32_30 : BitVec 32 := 2#32
  let c0_i32_26 : BitVec 32 := 0#32
  let c1_i32_28 : BitVec 32 := 1#32
  let arg12 : BitVec 32 := Scf.iv c0_i32_26 c1_i32_28 k1_t5
  let v29 : BitVec 32 := Scalar.muli c2_i32_30 arg12
  let c39_i32 : BitVec 32 := 39#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let c1_i32 : BitVec 32 := 1#32
  let c0_i32 : BitVec 32 := 0#32
  let v3 : BitVec 32 := Scalar.select v2 c1_i32 c0_i32
  let v4 : BitVec 32 := Scalar.addi c39_i32 v3
  let v30 : BitVec 1 := Scalar.cmpi .slt v29 v4
  let v31 : BitVec 32 := Scalar.extui v30
  let c0_i32_31 : BitVec 32 := 0#32
  let v32 : BitVec 1 := Scalar.cmpi .ne v31 c0_i32_31
  v32

@[reducible] def k1_t6_loop : Scf.Loop 32 :=
  let c0_i32_42 : BitVec 32 := 0#32
  let c160_i32 : BitVec 32 := 160#32
  let v47 : BitVec 32 := Scalar.addi c0_i32_42 c160_i32
  let c1_i32_43 : BitVec 32 := 1#32
  ⟨c0_i32_42, v47, c1_i32_43⟩
def k1_off9 (k1_t6 : Fin k1_t6_loop.trips) : Fin 2 → Nat :=
  let c1_i32_47 : BitVec 32 := 1#32
  let v51 : Index := Scalar.indexCast c1_i32_47
  let c0_i32_46 : BitVec 32 := 0#32
  let c0_i32_42 : BitVec 32 := 0#32
  let c1_i32_43 : BitVec 32 := 1#32
  let arg14 : BitVec 32 := Scf.iv c0_i32_42 c1_i32_43 k1_t6
  let c1_i32_45 : BitVec 32 := 1#32
  let v48 : BitVec 32 := Scalar.muli arg14 c1_i32_45
  let v49 : BitVec 32 := Scalar.addi c0_i32_46 v48
  let c16_i32 : BitVec 32 := 16#32
  let v50 : BitVec 32 := Scalar.muli v49 c16_i32
  let v52 : Index := Scalar.indexCast v50
  ![1, v52.toNat]
def k1_off10 (k1_t6 : Fin k1_t6_loop.trips) : Fin 2 → Nat :=
  let c0_i32_49 : BitVec 32 := 0#32
  let v55 : Index := Scalar.indexCast c0_i32_49
  let c0_i32_46 : BitVec 32 := 0#32
  let c0_i32_42 : BitVec 32 := 0#32
  let c1_i32_43 : BitVec 32 := 1#32
  let arg14 : BitVec 32 := Scf.iv c0_i32_42 c1_i32_43 k1_t6
  let c1_i32_45 : BitVec 32 := 1#32
  let v48 : BitVec 32 := Scalar.muli arg14 c1_i32_45
  let v49 : BitVec 32 := Scalar.addi c0_i32_46 v48
  let c16_i32_48 : BitVec 32 := 16#32
  let v54 : BitVec 32 := Scalar.muli v49 c16_i32_48
  let v56 : Index := Scalar.indexCast v54
  ![0, v56.toNat]

def k1_chk5 (i : grid1.Coords) (k1_t5 : Fin k1_t5_loop.trips) (v59 : IVec S16 32) : Prop :=
  (∀ (k1_h5 : k1_cond5 i k1_t5 = 1#1), ∀ a x, ((![v59] : Fin 1 → IVec S16 32) a x).toNat < S3136.size a)
theorem k1_idx5_inb : ∀ (i : grid1.Coords) (k1_t5 : Fin k1_t5_loop.trips) (v59 : IVec S16 32) (k1_hw5 : k1_chk5 i k1_t5 v59), ∀ (k1_h5 : k1_cond5 i k1_t5 = 1#1), ∀ a x, ((![v59] : Fin 1 → IVec S16 32) a x).toNat < S3136.size a := fun i k1_t5 v59 k1_hw5 k1_h5 => k1_hw5 k1_h5

def k1_chk6 (i : grid1.Coords) (k1_t5 : Fin k1_t5_loop.trips) (v57 : IVec S16 32) : Prop :=
  (∀ (k1_h5 : k1_cond5 i k1_t5 = 1#1), ∀ a x, ((![v57] : Fin 1 → IVec S16 32) a x).toNat < S100352.size a)
theorem k1_idx6_inb : ∀ (i : grid1.Coords) (k1_t5 : Fin k1_t5_loop.trips) (v57 : IVec S16 32) (k1_hw6 : k1_chk6 i k1_t5 v57), ∀ (k1_h5 : k1_cond5 i k1_t5 = 1#1), ∀ a x, ((![v57] : Fin 1 → IVec S16 32) a x).toNat < S100352.size a := fun i k1_t5 v57 k1_hw6 k1_h5 => k1_hw6 k1_h5
def k1_cond6 (i : grid1.Coords) (k1_t5 : Fin k1_t5_loop.trips) : BitVec 1 :=
  let c2_i32_30 : BitVec 32 := 2#32
  let c0_i32_26 : BitVec 32 := 0#32
  let c1_i32_28 : BitVec 32 := 1#32
  let arg12 : BitVec 32 := Scf.iv c0_i32_26 c1_i32_28 k1_t5
  let v29 : BitVec 32 := Scalar.muli c2_i32_30 arg12
  let c2_i32_32 : BitVec 32 := 2#32
  let v33 : BitVec 32 := Scalar.addi v29 c2_i32_32
  let c39_i32 : BitVec 32 := 39#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let c1_i32 : BitVec 32 := 1#32
  let c0_i32 : BitVec 32 := 0#32
  let v3 : BitVec 32 := Scalar.select v2 c1_i32 c0_i32
  let v4 : BitVec 32 := Scalar.addi c39_i32 v3
  let v34 : BitVec 1 := Scalar.cmpi .slt v33 v4
  let v35 : BitVec 32 := Scalar.extui v34
  let c0_i32_33 : BitVec 32 := 0#32
  let v36 : BitVec 1 := Scalar.cmpi .ne v35 c0_i32_33
  v36

def k1_off11 (i : grid1.Coords) (k1_t5 : Fin k1_t5_loop.trips) : Fin 2 → Nat :=
  let c0_i32_41 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_30 : BitVec 32 := 2#32
  let c0_i32_26 : BitVec 32 := 0#32
  let c1_i32_28 : BitVec 32 := 1#32
  let arg12 : BitVec 32 := Scf.iv c0_i32_26 c1_i32_28 k1_t5
  let v29 : BitVec 32 := Scalar.muli c2_i32_30 arg12
  let c2_i32_38 : BitVec 32 := 2#32
  let v45 : BitVec 32 := Scalar.addi v29 c2_i32_38
  let c32_i32_39 : BitVec 32 := 32#32
  let v46 : BitVec 32 := Scalar.muli v45 c32_i32_39
  let v47 : BitVec 32 := Scalar.addi v1 v46
  let c2560_i32_40 : BitVec 32 := 2560#32
  let v48 : BitVec 32 := Scalar.muli v47 c2560_i32_40
  ![0, v48.toNat]
def k1_cond7 (i : grid1.Coords) (k1_t5 : Fin k1_t5_loop.trips) : BitVec 1 :=
  let c2_i32_30 : BitVec 32 := 2#32
  let c0_i32_26 : BitVec 32 := 0#32
  let c1_i32_28 : BitVec 32 := 1#32
  let arg12 : BitVec 32 := Scf.iv c0_i32_26 c1_i32_28 k1_t5
  let v29 : BitVec 32 := Scalar.muli c2_i32_30 arg12
  let c1_i32_34 : BitVec 32 := 1#32
  let v37 : BitVec 32 := Scalar.addi v29 c1_i32_34
  let c39_i32 : BitVec 32 := 39#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let c1_i32 : BitVec 32 := 1#32
  let c0_i32 : BitVec 32 := 0#32
  let v3 : BitVec 32 := Scalar.select v2 c1_i32 c0_i32
  let v4 : BitVec 32 := Scalar.addi c39_i32 v3
  let v38 : BitVec 1 := Scalar.cmpi .slt v37 v4
  let v39 : BitVec 32 := Scalar.extui v38
  let c0_i32_35 : BitVec 32 := 0#32
  let v40 : BitVec 1 := Scalar.cmpi .ne v39 c0_i32_35
  v40

@[reducible] def k1_t7_loop : Scf.Loop 32 :=
  let c0_i32_42 : BitVec 32 := 0#32
  let c160_i32 : BitVec 32 := 160#32
  let v47 : BitVec 32 := Scalar.addi c0_i32_42 c160_i32
  let c1_i32_43 : BitVec 32 := 1#32
  ⟨c0_i32_42, v47, c1_i32_43⟩
def k1_off12 (k1_t7 : Fin k1_t7_loop.trips) : Fin 2 → Nat :=
  let c1_i32_47 : BitVec 32 := 1#32
  let v51 : Index := Scalar.indexCast c1_i32_47
  let c0_i32_46 : BitVec 32 := 0#32
  let c0_i32_42 : BitVec 32 := 0#32
  let c1_i32_43 : BitVec 32 := 1#32
  let arg14 : BitVec 32 := Scf.iv c0_i32_42 c1_i32_43 k1_t7
  let c1_i32_45 : BitVec 32 := 1#32
  let v48 : BitVec 32 := Scalar.muli arg14 c1_i32_45
  let v49 : BitVec 32 := Scalar.addi c0_i32_46 v48
  let c16_i32 : BitVec 32 := 16#32
  let v50 : BitVec 32 := Scalar.muli v49 c16_i32
  let v52 : Index := Scalar.indexCast v50
  ![1, v52.toNat]
def k1_off13 (k1_t7 : Fin k1_t7_loop.trips) : Fin 2 → Nat :=
  let c0_i32_49 : BitVec 32 := 0#32
  let v55 : Index := Scalar.indexCast c0_i32_49
  let c0_i32_46 : BitVec 32 := 0#32
  let c0_i32_42 : BitVec 32 := 0#32
  let c1_i32_43 : BitVec 32 := 1#32
  let arg14 : BitVec 32 := Scf.iv c0_i32_42 c1_i32_43 k1_t7
  let c1_i32_45 : BitVec 32 := 1#32
  let v48 : BitVec 32 := Scalar.muli arg14 c1_i32_45
  let v49 : BitVec 32 := Scalar.addi c0_i32_46 v48
  let c16_i32_48 : BitVec 32 := 16#32
  let v54 : BitVec 32 := Scalar.muli v49 c16_i32_48
  let v56 : Index := Scalar.indexCast v54
  ![0, v56.toNat]

def k1_chk7 (i : grid1.Coords) (k1_t5 : Fin k1_t5_loop.trips) (v59 : IVec S16 32) : Prop :=
  (∀ (k1_h7 : k1_cond7 i k1_t5 = 1#1), ∀ a x, ((![v59] : Fin 1 → IVec S16 32) a x).toNat < S3136.size a)
theorem k1_idx7_inb : ∀ (i : grid1.Coords) (k1_t5 : Fin k1_t5_loop.trips) (v59 : IVec S16 32) (k1_hw7 : k1_chk7 i k1_t5 v59), ∀ (k1_h7 : k1_cond7 i k1_t5 = 1#1), ∀ a x, ((![v59] : Fin 1 → IVec S16 32) a x).toNat < S3136.size a := fun i k1_t5 v59 k1_hw7 k1_h7 => k1_hw7 k1_h7

def k1_chk8 (i : grid1.Coords) (k1_t5 : Fin k1_t5_loop.trips) (v57 : IVec S16 32) : Prop :=
  (∀ (k1_h7 : k1_cond7 i k1_t5 = 1#1), ∀ a x, ((![v57] : Fin 1 → IVec S16 32) a x).toNat < S100352.size a)
theorem k1_idx8_inb : ∀ (i : grid1.Coords) (k1_t5 : Fin k1_t5_loop.trips) (v57 : IVec S16 32) (k1_hw8 : k1_chk8 i k1_t5 v57), ∀ (k1_h7 : k1_cond7 i k1_t5 = 1#1), ∀ a x, ((![v57] : Fin 1 → IVec S16 32) a x).toNat < S100352.size a := fun i k1_t5 v57 k1_hw8 k1_h7 => k1_hw8 k1_h7
def k1_cond8 (i : grid1.Coords) (k1_t5 : Fin k1_t5_loop.trips) : BitVec 1 :=
  let c2_i32_30 : BitVec 32 := 2#32
  let c0_i32_26 : BitVec 32 := 0#32
  let c1_i32_28 : BitVec 32 := 1#32
  let arg12 : BitVec 32 := Scf.iv c0_i32_26 c1_i32_28 k1_t5
  let v29 : BitVec 32 := Scalar.muli c2_i32_30 arg12
  let c3_i32 : BitVec 32 := 3#32
  let v41 : BitVec 32 := Scalar.addi v29 c3_i32
  let c39_i32 : BitVec 32 := 39#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let c1_i32 : BitVec 32 := 1#32
  let c0_i32 : BitVec 32 := 0#32
  let v3 : BitVec 32 := Scalar.select v2 c1_i32 c0_i32
  let v4 : BitVec 32 := Scalar.addi c39_i32 v3
  let v42 : BitVec 1 := Scalar.cmpi .slt v41 v4
  let v43 : BitVec 32 := Scalar.extui v42
  let c0_i32_36 : BitVec 32 := 0#32
  let v44 : BitVec 1 := Scalar.cmpi .ne v43 c0_i32_36
  v44

def k1_off14 (i : grid1.Coords) (k1_t5 : Fin k1_t5_loop.trips) : Fin 2 → Nat :=
  let c0_i32_41 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_30 : BitVec 32 := 2#32
  let c0_i32_26 : BitVec 32 := 0#32
  let c1_i32_28 : BitVec 32 := 1#32
  let arg12 : BitVec 32 := Scf.iv c0_i32_26 c1_i32_28 k1_t5
  let v29 : BitVec 32 := Scalar.muli c2_i32_30 arg12
  let c3_i32_38 : BitVec 32 := 3#32
  let v45 : BitVec 32 := Scalar.addi v29 c3_i32_38
  let c32_i32_39 : BitVec 32 := 32#32
  let v46 : BitVec 32 := Scalar.muli v45 c32_i32_39
  let v47 : BitVec 32 := Scalar.addi v1 v46
  let c2560_i32_40 : BitVec 32 := 2560#32
  let v48 : BitVec 32 := Scalar.muli v47 c2560_i32_40
  ![0, v48.toNat]
def k1_off15 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100352_i32 : BitVec 32 := 100352#32
  let v28 : BitVec 32 := Scalar.muli v1 c100352_i32
  ![v28.toNat]
abbrev grid2 : Pipeline.Grid := .none

abbrev stage2_0 : Fin 1 → Memref sig .tc .vmem S3211264 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .smem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000 : Shape := ⟨1, ![100000]⟩
abbrev S2x3200000 : Shape := ⟨2, ![2, 3200000]⟩
abbrev S_ : Shape := ⟨0, ![]⟩
abbrev S1x3200000 : Shape := ⟨2, ![1, 3200000]⟩
abbrev S3200000 : Shape := ⟨1, ![3200000]⟩
abbrev S3200000x1 : Shape := ⟨2, ![3200000, 1]⟩
abbrev S6400000 : Shape := ⟨1, ![6400000]⟩
abbrev S6400000x1 : Shape := ⟨2, ![6400000, 1]⟩

abbrev nBuf : Space → Nat
  | .hbm => 66
  | .vmem => 0
  | .smem => 0
  | _ => 0

abbrev bufTy : (tb : Table) → Fin (tcTables nBuf tb) → BufTy
  | .hbm, ⟨0, _⟩ => ⟨S100000, .f32⟩
  | .hbm, ⟨1, _⟩ => ⟨S2x3200000, .i32⟩
  | .hbm, ⟨2, _⟩ => ⟨S2x3200000, .i32⟩
  | .hbm, ⟨3, _⟩ => ⟨S_, .f32⟩
  | .hbm, ⟨4, _⟩ => ⟨S_, .f32⟩
  | .hbm, ⟨5, _⟩ => ⟨S100000, .f32⟩
  | .hbm, ⟨6, _⟩ => ⟨S100000, .f32⟩
  | .hbm, ⟨7, _⟩ => ⟨S_, .f32⟩
  | .hbm, ⟨8, _⟩ => ⟨S_, .i1⟩
  | .hbm, ⟨9, _⟩ => ⟨S100000, .f32⟩
  | .hbm, ⟨10, _⟩ => ⟨S100000, .f32⟩
  | .hbm, ⟨11, _⟩ => ⟨S100000, .f32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .i1⟩
  | .hbm, ⟨20, _⟩ => ⟨S100000, .i1⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S1x3200000, .i32⟩
  | .hbm, ⟨30, _⟩ => ⟨S3200000, .i32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S1x3200000, .i32⟩
  | .hbm, ⟨44, _⟩ => ⟨S3200000, .i32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000, .f32⟩
  | .hbm, ⟨54, _⟩ => ⟨S6400000, .f32⟩
  | .hbm, ⟨55, _⟩ => ⟨S1x3200000, .i32⟩
  | .hbm, ⟨56, _⟩ => ⟨S3200000, .i32⟩
  | .hbm, ⟨57, _⟩ => ⟨S1x3200000, .i32⟩
  | .hbm, ⟨58, _⟩ => ⟨S3200000, .i32⟩
  | .hbm, ⟨59, _⟩ => ⟨S6400000, .i32⟩
  | .hbm, ⟨60, _⟩ => ⟨S_, .f32⟩
  | .hbm, ⟨61, _⟩ => ⟨S100000, .f32⟩
  | .hbm, ⟨62, _⟩ => ⟨S6400000x1, .i32⟩
  | .hbm, ⟨63, _⟩ => ⟨S100000, .f32⟩
  | .hbm, ⟨64, _⟩ => ⟨S_, .f32⟩
  | .hbm, ⟨65, _⟩ => ⟨S_, .f32⟩
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_0 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_call0_v17 : Ref sig .tc := ⟨.hbm, 23, rfl⟩
abbrev main_call0_cst_1 : Ref sig .tc := ⟨.hbm, 24, rfl⟩
abbrev main_call0_v18 : Ref sig .tc := ⟨.hbm, 25, rfl⟩
abbrev main_call0_v19 : Ref sig .tc := ⟨.hbm, 26, rfl⟩
abbrev main_call0_v20 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_c : Ref sig .tc := ⟨.hbm, 31, rfl⟩
abbrev main_v3 : Ref sig .tc := ⟨.hbm, 32, rfl⟩
abbrev main_v4 : Ref sig .tc := ⟨.hbm, 33, rfl⟩
abbrev main_c_0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst_1 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_c_2 : Ref sig .tc := ⟨.hbm, 45, rfl⟩
abbrev main_v14 : Ref sig .tc := ⟨.hbm, 46, rfl⟩
abbrev main_v15 : Ref sig .tc := ⟨.hbm, 47, rfl⟩
abbrev main_c_3 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_4 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_5 : Ref sig .tc := ⟨.hbm, 64, rfl⟩
abbrev main_v30 : Ref sig .tc := ⟨.hbm, 65, rfl⟩

abbrev nD : Nat := 1
abbrev τ : Topo := Topo.v7x

variable {F : FTy → Type} [FloatOps F]
-- ==== Proof.Setup.lean ====
/-
  The program as the SparseCore launch theorem sees it: the labels, the configuration, the body table below the launch, and the
  resource algebra — the launch's handshakes, the two TensorCore pipelines' cells, and the counters of the tiles' own copies.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels below the launch: the kernels' bodies and the two pipelines. -/
abbrev ΛP : Labels := Pipeline.Sig Λ₀ (Fin 2) fun p => (pcfgs (F := F) p).Adm
/-- The SparseCore configuration of the one call. -/
abbrev K : SparseCore.Cfg τ sig (ΛP (F := F)) 1 := sc (F := F)
/-- The body table below the launch. -/
abbrev D [FloatOps F] : Defs nD τ sig (Elt F) (ΛP (F := F)) := Pipeline.defs pcfgs defs₀
abbrev 𝒱₀ : Variants := Variants.none
abbrev 𝒱p : Variants := 𝒱₀.lift
abbrev v₀ : 𝒱p.V := Sum.inl none

/-- The launch's side conditions on its semaphores hold of this program. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The resource algebra -/

/-- The launch's handshakes. -/
abbrev UH : Type := URounds (GSem nD τ sig) ℕ
/-- The pipelines' cells. -/
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
abbrev EC : UEmb Counters (MT nD τ sig (HIx 1) (Elt F) ℕ UU ℕ) := countersEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

end Cert.Proof.Hist
-- ==== Proof.Own.lean ====
/-
  One step of a tile at a time, each stated over what a memref READS (`owns`): a load, a whole-word store, an indexed load, an
  indexed store, a copy in, a copy out and a copy's wait.
-/
module

public import proofs.«01_k».proof.Proof.Setup
public import Idealize.ShloMosaic.Lib.Memref
public import Idealize.ShloMosaic.Lib.SparseCore.Scatter

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (c : Fin τ.nSC) (s : Fin τ.nSub)

/-- The weakest precondition of a tile's program, the bodies below it the kernels' own. -/
abbrev tileWp {α : Type} (p : Prog (TpuEff nD τ sig (Elt F) Λ₀ (.scVector c s)) α) (Q : α → sProp 𝕄) : sProp 𝕄 :=
  wp frame (wpE (defs₀ (F := F)) 𝒱₀ (V d c s) none) Set.univ p Q

variable {α : Type} {Q : α → sProp (MT nD τ sig (HIx 1) (Elt F) ℕ UU ℕ)}

/-- A load reads the memref's contents at the load's rectangle. -/
theorem wp_load_owns {cs : CoreSpace} {sh : Shape} {e : EltTy} {mr : Memref sig .scVector cs sh e} {r : Rect sh}
    {hl : mr.view.LoadsAt r.toLoadRect} {q : PosShare TreeShare} {X : sh.Idx → Elt F e} {Z : r.shape.Idx → Elt F e}
    (hZ : ∀ x, Z x = X (r.emb x)) {k : (r.shape.Idx → Elt F e) → Prog (TpuEff nD τ sig (Elt F) Λ₀ (.scVector c s)) α} :
    (owns (V d c s) mr q X : sProp 𝕄)
      ⊢ iprop((owns (V d c s) mr q X -∗ tileWp d c s (k Z) Q)
          -∗ tileWp d c s (Prog.lift (.load mr r.toLoadRect hl) >>= k) Q) := by
  obtain rfl : Z = fun x => X (r.emb x) := funext hZ
  unfold owns
  iintro ⟨%f, %hf, H⟩ Hk
  iapply (wp_load 𝒱₀ (V d c s) none Set.univ (m := mr) (S := mr.view.set) (f := f) (View.setOn_subset_set _ _)) $$ H
  iintro H
  subst hf
  iapply Hk
  iexists f; isplitr; · ipureintro; rfl
  iexact H

/-- A store of a rectangle writes it over the contents. -/
theorem wp_store_owns {cs : CoreSpace} {sh : Shape} {e : EltTy} {mr : Memref sig .scVector cs sh e} {r : Rect sh}
    {w : r.shape.Idx → Elt F e} {hx : (mr.access r).Stores Finset.univ} {hm : Finset.univ = (Finset.univ : Finset r.shape.Idx) ∨ ∀ a, r.stride a = 1}
    {X : sh.Idx → Elt F e} {k : PUnit → Prog (TpuEff nD τ sig (Elt F) Λ₀ (.scVector c s)) α} :
    (owns (V d c s) mr fullShare X : sProp 𝕄)
      ⊢ iprop((owns (V d c s) mr fullShare (r.overlay X w) -∗ tileWp d c s (k ⟨⟩) Q)
          -∗ tileWp d c s (Prog.lift (.store mr r w Finset.univ hx hm) >>= k) Q) := by
  unfold owns
  iintro ⟨%f, %hf, H⟩ Hk
  subst hf
  iapply (wp_store 𝒱₀ (V d c s) none Set.univ (m := mr) (r := r) (Mk := Finset.univ) (S := mr.view.set) (f := f)
    (View.set_slice_subset _ _)) $$ H
  iintro H
  iapply Hk
  iexists _; isplitr
  swap; · iexact H
  ipureintro
  funext y
  by_cases hy : y ∈ r.set
  · obtain ⟨x, rfl⟩ := r.exists_idx_of_mem hy
    change _ = r.overlay _ w (r.emb x)
    rw [Rect.overlay_emb]
    exact View.read_slice_write_emb r _ w (Finset.mem_univ x)
  · rw [Rect.overlay_of_not_mem _ _ _ hy]
    exact View.read_slice_write_of_not_mem r _ _ _ (by rw [Rect.map_emb_univ]; exact hy)

theorem whole_emb {sh : Shape} (x : sh.Idx) : (Rect.whole sh).emb x = x := by
  funext a; apply Fin.ext; simp

/-- An indexed load reads the contents at the indices. -/
theorem wp_loadIdx_owns {sh t : Shape} {e : EltTy} {base : Memref sig .scVector .vmem sh e} {idxs : Fin sh.rank → IVec t 32}
    {h : ∀ a x, (idxs a x).toNat < sh.size a} {hl : base.view.Loads} {q : PosShare TreeShare} {X : Vec F sh e}
    {k : Vec F t e → Prog (TpuEff nD τ sig (Elt F) Λ₀ (.scVector c s)) α} :
    (owns (V d c s) base q X : sProp 𝕄)
      ⊢ iprop((owns (V d c s) base q X -∗ tileWp d c s (k (loadIdx X idxs h)) Q)
          -∗ tileWp d c s (SparseCore.vectorLoadIdx base idxs h hl >>= k) Q) := by
  unfold owns
  iintro ⟨%f, %hf, H⟩ Hk
  subst hf
  have hr : (base.access (.whole sh)).read (Elt F) f = base.view.read (Elt F) f := by
    funext x; exact congrArg (base.view.read (Elt F) f) (whole_emb x)
  iapply (SparseCore.wp_vectorLoadIdx 𝒱₀ (V d c s) none Set.univ (base := base) (S := base.view.set) (q := q) (f := f)
    (View.set_slice_subset _ _)) $$ H
  iintro H
  rw [hr]
  iapply Hk
  iexists f; isplitr; · ipureintro; rfl
  iexact H

/-- An indexed store leaves the contents after its lanes, in order. -/
theorem wp_storeIdx_owns {sh : Shape} {dd : Fin 1 → Nat} {e : EltTy} {base : Memref sig .scVector .vmem sh e} {idxs : Fin sh.rank → IVec ⟨1, dd⟩ 32}
    {v : Vec F ⟨1, dd⟩ e} {mask : IVec ⟨1, dd⟩ 1} {add : Bool}
    {h : ∀ a x, (idxs a x).toNat < sh.size a} {hs : (base.access (.whole sh)).Stores Finset.univ} {X : Vec F sh e}
    {k : PUnit → Prog (TpuEff nD τ sig (Elt F) Λ₀ (.scVector c s)) α} :
    (owns (V d c s) base fullShare X : sProp 𝕄)
      ⊢ iprop((owns (V d c s) base fullShare (storeIdx X idxs v mask add h) -∗ tileWp d c s (k ⟨⟩) Q)
          -∗ tileWp d c s (SparseCore.vectorStoreIdx base idxs v mask add h hs >>= k) Q) := by
  unfold owns
  iintro ⟨%f, %hf, H⟩ Hk
  subst hf
  have hset : (base.access (.whole sh)).set = base.view.set := by
    ext i; simp only [View.set, Finset.mem_map]
    constructor
    · rintro ⟨x, -, rfl⟩; exact ⟨(Rect.whole sh).emb x, Finset.mem_univ _, rfl⟩
    · rintro ⟨x, -, rfl⟩; exact ⟨x, Finset.mem_univ _, congrArg base.view.emb (whole_emb x)⟩
  have hr : (base.access (.whole sh)).read (Elt F) f = base.view.read (Elt F) f := by
    funext x; exact congrArg (base.view.read (Elt F) f) (whole_emb x)
  ihave H' := (Entails.of_eq (show ((V d c s).loc base.view.ref ↦[base.view.set]{fullShare} f : sProp 𝕄) = _ from
    congrArg (fun S => ((V d c s).loc base.view.ref ↦[S]{fullShare} f : sProp 𝕄)) hset.symm)) $$ H
  iapply (SparseCore.wp_vectorStoreIdx 𝒱₀ (V d c s) none Set.univ (base := base) (f := f)) $$ H'
  iintro H
  iapply Hk
  rw [hr]
  iexists _; isplitr
  swap
  · iapply (Entails.of_eq (congrArg (fun S => ((V d c s).loc base.view.ref ↦[S]{fullShare} _ : sProp 𝕄)) hset)) $$ H
  ipureintro
  funext x
  have := congrFun (View.read_write_univ (Val := Elt F) (v := base.access (.whole sh)) f (storeIdx (base.view.read (Elt F) f) idxs v mask add h)) x
  rw [← this]
  exact congrArg (base.view.read (Elt F) _) (whole_emb x).symm

/-- The side condition a body checks is known to hold. -/
theorem wp_assume_owns {P : Prop} {dP : Decidable P} (h : P) {k : PLift P → Prog (TpuEff nD τ sig (Elt F) Λ₀ (.scVector c s)) α} :
    tileWp d c s (k ⟨h⟩) Q ⊢ tileWp d c s (Prog.lift (.assume P dP) >>= k) Q :=
  Entails.of_eq (wp_assume_of 𝒱₀ (V d c s) none Set.univ h).symm

/-! ## Copies -/

/-- A tile's copy in flight on one of its own semaphores, delivering `P` at its wait. -/
abbrev Fl (sm : DmaSem sig) (N : ℕ) (P : sProp (MT nD τ sig (HIx 1) (Elt F) ℕ UU ℕ)) : sProp (MT nD τ sig (HIx 1) (Elt F) ℕ UU ℕ) :=
  Transfers.Flight EC (V d c s) (.dma sm) (none : HIx 1) N P

variable {sp sp' : Space} {sh : Shape} {e : EltTy}

/-- A copy of a rectangle of `src` into the whole of `dst`: the wait hands `dst` back holding the rectangle, and `src`. -/
theorem wp_fetch_owns [∀ e, Nonempty (Elt F e)] {src : Memref sig .scVector sp sh e} {r : Rect sh} {hr : ∀ a, r.stride a = 1}
    {dst : Memref sig .scVector sp' r.shape e} {sm : DmaSem sig}
    {hsrc : (src.slice r hr).view.WordExact} {hdst : dst.view.WordExact} {hsem : DmaTarget.Typed (nD := nD) sp (.dma sm) (DmaTarget.here (p := .scVector c s) dst)}
    {q : PosShare TreeShare} {A : sh.Idx → Elt F e} {Y : r.shape.Idx → Elt F e}
    {k : PUnit → Prog (TpuEff nD τ sig (Elt F) Λ₀ (.scVector c s)) α} (hn : 0 < r.shape.numel) :
    iprop((owns (V d c s) src q A : sProp 𝕄) ∗ owns (V d c s) dst fullShare Y ∗ semVal (V d c s, SemLoc.dma sm) 0)
      ⊢ iprop((Fl d c s sm dst.view.dmaCredit iprop(owns (V d c s) dst fullShare (fun x => A (r.emb x)) ∗ owns (V d c s) src q A)
            -∗ tileWp d c s (k ⟨⟩) Q)
          -∗ tileWp d c s (Prog.lift (.enqueueDma (src.slice r hr) (.here dst) (.dma sm) hsrc hdst hsem) >>= k) Q) := by
  iintro ⟨HA, HY, Hv⟩ Hk
  ihave HA' := (owns_slice_split (V d c s) src q r hr A) $$ HA
  icases HA' with ⟨HS, %f, %hf, HR⟩
  subst hf
  unfold owns
  icases HS with ⟨%g, %hg, HS⟩
  icases HY with ⟨%y, %hy, HY⟩
  iapply (Transfers.wp_dmaLocal EC 𝒱₀ (V d c s) none (src := src.slice r hr) (dst := dst) (sm := .dma sm) (q := q) (fs := g) (fd := y)
    (none : HIx 1) dst.view.dmaCredit rfl (View.amount_pos dst.view (SemLoc.dma sm) hn) subset_rfl) $$ [HS HY Hv]
  · isplitl [HS]; · iexact HS
    isplitl [HY]; · iexact HY
    iexact Hv
  iintro Hf
  iapply Hk
  ihave Hf' := (Transfers.Flight_frame EC (V d c s)) $$ [HR Hf]
  · isplitl [HR]; · iexact HR
    iexact Hf
  iapply (Transfers.Flight_mono EC (V d c s) ?_) $$ Hf'
  iintro ⟨HR, HD, HS⟩
  isplitl [HD]
  · iexists _; isplitr
    swap; · iexact HD
    ipureintro
    funext x
    rw [View.read_write_univ]
    exact congrFun hg x
  · ihave HJ := (owns_slice_join (V d c s) src q r hr (fun j => src.view.read (Elt F) f (r.emb j)) f) $$ [HS HR]
    · isplitl [HS]
      · unfold owns
        iexists g; isplitr; · ipureintro; exact hg
        iexact HS
      · iexact HR
    have ho : r.overlay (src.view.read (Elt F) f) (fun j => src.view.read (Elt F) f (r.emb j)) = src.view.read (Elt F) f := by
      funext x
      by_cases hx : x ∈ r.set
      · obtain ⟨j, rfl⟩ := r.exists_idx_of_mem hx
        change r.overlay _ _ (r.emb j) = _
        rw [Rect.overlay_emb]; rfl
      · rw [Rect.overlay_of_not_mem _ _ _ hx]
    rw [ho]
    unfold owns
    iexact HJ

/-- A copy between two whole memrefs of one shape: the wait hands back the destination holding the source's contents, and the source. -/
theorem wp_copy_owns {src : Memref sig .scVector sp sh e} {dst : Memref sig .scVector sp' sh e} {sm : DmaSem sig}
    {hsrc : src.view.WordExact} {hdst : dst.view.WordExact} {hsem : DmaTarget.Typed (nD := nD) sp (.dma sm) (DmaTarget.here (p := .scVector c s) dst)}
    {q : PosShare TreeShare} {A Y : sh.Idx → Elt F e}
    {k : PUnit → Prog (TpuEff nD τ sig (Elt F) Λ₀ (.scVector c s)) α} (hn : 0 < sh.numel) :
    iprop((owns (V d c s) src q A : sProp 𝕄) ∗ owns (V d c s) dst fullShare Y ∗ semVal (V d c s, SemLoc.dma sm) 0)
      ⊢ iprop((Fl d c s sm dst.view.dmaCredit iprop(owns (V d c s) dst fullShare A ∗ owns (V d c s) src q A)
            -∗ tileWp d c s (k ⟨⟩) Q)
          -∗ tileWp d c s (Prog.lift (.enqueueDma src (.here dst) (.dma sm) hsrc hdst hsem) >>= k) Q) := by
  unfold owns
  iintro ⟨⟨%g, %hg, HS⟩, ⟨%y, %hy, HY⟩, Hv⟩ Hk
  iapply (Transfers.wp_dmaLocal EC 𝒱₀ (V d c s) none (src := src) (dst := dst) (sm := .dma sm) (q := q) (fs := g) (fd := y)
    (none : HIx 1) dst.view.dmaCredit rfl (View.amount_pos dst.view (SemLoc.dma sm) hn) subset_rfl) $$ [HS HY Hv]
  · isplitl [HS]; · iexact HS
    isplitl [HY]; · iexact HY
    iexact Hv
  iintro Hf
  iapply Hk
  iapply (Transfers.Flight_mono EC (V d c s) ?_) $$ Hf
  iintro ⟨HD, HS⟩
  isplitl [HD]
  · iexists _; isplitr
    swap; · iexact HD
    ipureintro
    funext x
    rw [View.read_write_univ]
    exact congrFun hg x
  · iexists g; isplitr; · ipureintro; exact hg
    iexact HS

/-- The wait for a copy: what it delivers, its semaphore back at zero, the wait recorded. -/
theorem wp_wait_owns {s' : Shape} {e' : EltTy} {sm : DmaSem sig} {srcw : Memref sig .scVector sp' s' e'} {dstw : Memref sig .scVector sp sh e}
    {hsrc : srcw.view.WordExact} {hdst : dstw.view.WordExact} {N : ℕ} (hN : dstw.view.dmaCredit = N) {P : sProp (MT nD τ sig (HIx 1) (Elt F) ℕ UU ℕ)}
    {O : CellTallies nD τ sig (HIx 1)} {W : Waits sig (HIx 1)}
    {k : PUnit → Prog (TpuEff nD τ sig (Elt F) Λ₀ (.scVector c s)) α} :
    iprop(Transfers.MayWaits (V d c s) (none : HIx 1) O ∗ Fl d c s sm N P
        ∗ ∃ W', ⌜∀ p ∈ W', p ∈ W ∨ p.2 = none⌝ ∗ owes (V d c s) O W')
      ⊢ iprop((iprop(P ∗ semVal (V d c s, SemLoc.dma sm) 0 ∗ ∃ W', ⌜∀ p ∈ W', p ∈ W ∨ p.2 = none⌝ ∗ owes (V d c s) O W')
            -∗ tileWp d c s (k ⟨⟩) Q)
          -∗ tileWp d c s (Prog.lift (.waitDma2 sm srcw dstw hsrc hdst) >>= k) Q) := by
  iintro ⟨Hmw, Hf, %W', %hW, HO⟩ Hk
  iapply (Transfers.wp_waitLocalO EC 𝒱₀ (V d c s) none (none : HIx 1) hN) $$ [Hmw Hf HO]
  · isplitl [Hf]; · iexact Hf
    isplitl [HO]; · iexact HO
    iapply (Transfers.MayWaits.elim (SemLoc.dma sm)) $$ Hmw
  iintro ⟨HP, Hv, HO⟩
  iapply Hk
  isplitl [HP]; · iexact HP
  isplitl [Hv]; · iexact Hv
  iexists _; isplitr
  swap; · iexact HO
  ipureintro
  intro p hp
  rcases Finset.mem_insert.mp hp with rfl | hp
  · exact Or.inr rfl
  · exact hW p hp

end Cert.Proof.Hist
-- ==== Proof.Vals.lean ====
/-
  The contents of the tiles' buffers as functions of natural numbers, the step one edge makes in a histogram, and what one
  masked indexed add of sixteen lanes does to it.
-/
module

public import Idealize.ShloMosaic.PureOps.ShapeOps
public import Idealize.ShloMosaic.Lib.Pointwise.Index
public import Idealize.ShloMosaic.Lib.Pipeline.Value
public import Mathlib.Data.BitVec
public import Mathlib.Algebra.BigOperators.Fin

@[expose] public section

noncomputable section

namespace Cert.Proof.Hist

open Idealize.ShloMosaic

/-- A vector's element at a natural number, zero past its end. -/
def at1 {n : ℕ} (X : (⟨1, ![n]⟩ : Shape).Idx → BitVec 32) (k : ℕ) : BitVec 32 :=
  if h : k < n then X (ix1 ⟨k, h⟩) else 0
/-- A matrix's element at two natural numbers, zero outside it. -/
def at2 {n m : ℕ} (X : (⟨2, ![n, m]⟩ : Shape).Idx → BitVec 32) (r k : ℕ) : BitVec 32 :=
  if h : r < n ∧ k < m then X (ix2 ⟨r, h.1⟩ ⟨k, h.2⟩) else 0

theorem at1_of {n : ℕ} (X : (⟨1, ![n]⟩ : Shape).Idx → BitVec 32) (x : (⟨1, ![n]⟩ : Shape).Idx) (k : ℕ) (h : (x 0).val = k) :
    X x = at1 X k := by
  subst h
  unfold at1
  have h : (x 0).val < n := (x 0).isLt
  rw [dif_pos h]
  exact congrArg X (eq_ix1 x)

theorem at2_of {n m : ℕ} (X : (⟨2, ![n, m]⟩ : Shape).Idx → BitVec 32) (x : (⟨2, ![n, m]⟩ : Shape).Idx) (r k : ℕ)
    (hr : (x 0).val = r) (hk : (x 1).val = k) : X x = at2 X r k := by
  subst hr hk
  unfold at2
  have h : (x 0).val < n ∧ (x 1).val < m := ⟨(x 0).isLt, (x 1).isLt⟩
  rw [dif_pos h]
  exact congrArg X (eq_ix2 x)

/-- The bit of node `n` in the packed words `w` is `m`. -/
abbrev Hit (w : ℕ → BitVec 32) (m n : BitVec 32) : Prop := (w (n.toNat / 32) >>> (n.toNat % 32)) &&& 1#32 = m

/-- What the edge from clause `c` to node `n` adds to entry `x` of the histogram of edges whose node's bit is `m`. -/
def inc (w : ℕ → BitVec 32) (m c n : BitVec 32) (x : ℕ) : BitVec 32 := if c.toNat = x ∧ Hit w m n then 1#32 else 0#32

/-- A fold of steps that each add a term at `x` adds the terms' sum there. -/
theorem foldl_add {β : Type} {n : ℕ} (step : ((⟨1, ![n]⟩ : Shape).Idx → BitVec 32) → β → (⟨1, ![n]⟩ : Shape).Idx → BitVec 32)
    (t : β → BitVec 32) (x : ℕ) (hstep : ∀ g k, at1 (step g k) x = at1 g x + t k) (l : List β) (f : (⟨1, ![n]⟩ : Shape).Idx → BitVec 32) :
    at1 (l.foldl step f) x = at1 f x + (l.map t).sum := by
  induction l generalizing f with
  | nil => simp
  | cons k l ih => rw [List.foldl_cons, ih, hstep, List.map_cons, List.sum_cons, add_assoc]

/-- What an indexed add of a vector's lanes leaves at `x`: the sum of the lanes there that the mask lets through. -/
theorem storeIdx_add {F : FTy → Type} [FloatOps F] {n L : ℕ} (f : Vec F ⟨1, ![n]⟩ .i32) (ix : IVec ⟨1, ![L]⟩ 32)
    (v : IVec ⟨1, ![L]⟩ 32) (mask : IVec ⟨1, ![L]⟩ 1) (h : ∀ a x, ((![ix] : Fin 1 → _) a x).toNat < (⟨1, ![n]⟩ : Shape).size a)
    (x : ℕ) (hx : x < n) :
    at1 (storeIdx f (![ix]) (v : Vec F ⟨1, ![L]⟩ .i32) mask true h : (⟨1, ![n]⟩ : Shape).Idx → BitVec 32) x
      = at1 (f : (⟨1, ![n]⟩ : Shape).Idx → BitVec 32) x
        + ∑ k : Fin L, if mask (ix1 k) = 1#1 ∧ (ix (ix1 k)).toNat = x then v (ix1 k) else 0#32 := by
  rw [Fin.sum_univ_def]
  refine foldl_add _ _ x (fun g k => ?_) _ _
  have hy : (Shape.ofLane (d := ![L]) k) = ix1 k := by funext a; fin_cases a; rfl
  dsimp only
  rw [hy]
  let y : (⟨1, ![L]⟩ : Shape).Idx := ix1 k
  have hb : (ix y).toNat < n := h 0 y
  have he : (idxAt (s := ⟨1, ![n]⟩) (![ix] : Fin 1 → _) h y) = ix1 ⟨(ix y).toNat, hb⟩ := by
    funext a; fin_cases a; rfl
  unfold at1
  rw [dif_pos hx, dif_pos hx]
  by_cases hm : mask y = 1#1
  · by_cases hxk : (ix y).toNat = x
    · subst hxk
      exact (congrFun (if_pos hm) _).trans ((if_pos fun a => by fin_cases a; rfl).trans
        (congrArg₂ (· + ·) (congrArg g he) (if_pos (c := mask y = 1#1 ∧ (ix y).toNat = (ix y).toNat) ⟨hm, rfl⟩).symm))
    · exact (congrFun (if_pos hm) _).trans ((if_neg fun hh => hxk (hh 0).symm).trans
        ((add_zero _).symm.trans (congrArg (_ + ·) (if_neg fun hh => hxk hh.2).symm)))
  · exact (congrFun (if_neg hm) _).trans ((add_zero _).symm.trans (congrArg (_ + ·) (if_neg fun hh => hm hh.1).symm))

end Cert.Proof.Hist
-- ==== Proof.Group.lean ====
/-
  One group of sixteen edges: two rows of a buffer are loaded, the packed word of each edge's node is looked up, and the edges
  whose node's bit is the wanted one are added into the histogram.
-/
module

public import proofs.«01_k».proof.Proof.Own
public import proofs.«01_k».proof.Proof.Vals

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A tile's programs. -/
abbrev TileProg (F : FTy → Type) [FloatOps F] (i : grid1.Coords) (α : Type) : Type _ :=
  Prog (TpuEff nD τ sig (Elt F) Λ₀ (.scVector ((i 0).castLE hcore1) ((i 1).castLE hsub1))) α

/-- The kernel's step on sixteen edges of a buffer, its offsets, side conditions, word index and mask left open. -/
def grpProg (i : grid1.Coords) (buf : Memref sig .scVector .vmem S2x2560 .i32) (hist : Memref sig .scVector .vmem S100352 .i32)
    (pk : Memref sig .scVector .vmem S3136 .i32) (off1 off0 : Fin 2 → ℕ)
    (inb1 : ∀ a, off1 a + S1x16.size a ≤ S2x2560.size a) (inb0 : ∀ a, off0 a + S1x16.size a ≤ S2x2560.size a)
    (C2 C1 : IVec S16 32 → Prop) (d2 : ∀ v, Decidable (C2 v)) (d1 : ∀ v, Decidable (C1 v))
    (i2 : ∀ v, C2 v → ∀ a x, ((![v] : Fin 1 → IVec S16 32) a x).toNat < S100352.size a)
    (i1 : ∀ v, C1 v → ∀ a x, ((![v] : Fin 1 → IVec S16 32) a x).toNat < S3136.size a)
    (idx : Vec F S1x16 .i32 → IVec S16 32) (mask : Vec F S1x16 .i32 → Vec F S16 .i32 → IVec S16 1) (ones : IVec S16 32) :
    TileProg F i Unit := do
  let v53 : Vec F S1x16 .i32 ← Prog.lift (.load buf (Rect.unit (s := S2x2560) off1 S1x16.size inb1).toLoadRect (View.loadsAt_vmem h_S1x16))
  let v57_ld : Vec F S1x16 .i32 ← Prog.lift (.load buf (Rect.unit (s := S2x2560) off0 S1x16.size inb0).toLoadRect (View.loadsAt_vmem h_S1x16))
  have v57 : Vec F S16 .i32 := shapeCast S16 v57_ld shapeCasts_S1x16_S16
  have hw2 : C2 v57 := (← Prog.lift (TpuEff.assume (C2 v57) (d2 v57))).down
  have v59 : IVec S16 32 := idx v53
  have hw1 : C1 v59 := (← Prog.lift (TpuEff.assume (C1 v59) (d1 v59))).down
  let v60 : Vec F S16 .i32 ← SparseCore.vectorLoadIdx pk ![v59] (i1 v59 hw1) (View.loads_vmem h_S3136)
  SparseCore.vectorStoreIdx hist ![v57] ones (mask v53 v60) true (i2 v57 hw2) (View.stores_vmem_bits_univ h_S100352 rfl)
  pure ⟨⟩

/-- The word index the kernel computes is the node's number over 32. -/
def IdxOk (idx : Vec F S1x16 .i32 → IVec S16 32) : Prop :=
  ∀ (v : Vec F S1x16 .i32) (k : Fin 16), ((idx v) (ix1 k)).toNat = (v (ix2 0 k) : BitVec 32).toNat / 32
/-- The mask the kernel computes lets an edge through when its node's bit of the word looked up is `m`. -/
def MaskOk (mask : Vec F S1x16 .i32 → Vec F S16 .i32 → IVec S16 1) (m : BitVec 32) : Prop :=
  ∀ (v : Vec F S1x16 .i32) (w : Vec F S16 .i32) (k : Fin 16),
    mask v w (ix1 k) = 1#1 ↔ ((w (ix1 k) : BitVec 32) >>> ((v (ix2 0 k) : BitVec 32).toNat % 32)) &&& 1#32 = m

theorem castRow (v : Vec F S1x16 .i32) (k : Fin 16) : (shapeCast S16 v shapeCasts_S1x16_S16 : Vec F S16 .i32) (ix1 k) = v (ix2 0 k) := by
  refine (shapeCast_dropUnit_apply (n := 1) ![16] v _ (ix1 k)).trans (congrArg v ?_)
  funext a; fin_cases a <;> rfl

/-- A rectangle of one row and sixteen columns at `(r, o)` reads there. -/
theorem at2_row {r o : ℕ} {off : Fin 2 → ℕ} (ho : off = ![r, o]) (inb : ∀ a, off a + S1x16.size a ≤ S2x2560.size a)
    (Y : Vec F S2x2560 .i32) (k : Fin 16) :
    (Y ((Rect.unit (s := S2x2560) off S1x16.size inb).emb (ix2 0 k)) : BitVec 32) = at2 (Y : S2x2560.Idx → BitVec 32) r (o + k.val) := by
  subst ho
  refine at2_of _ _ _ _ ?_ ?_
  · simp [Rect.emb_apply]
  · simp [Rect.emb_apply]

/-- What the group's indexed add leaves: the sixteen edges' steps on top of the contents before. -/
theorem group_value {idx : Vec F S1x16 .i32 → IVec S16 32} (hidx : IdxOk idx)
    {mask : Vec F S1x16 .i32 → Vec F S16 .i32 → IVec S16 1} {m : BitVec 32} (hmask : MaskOk mask m) (X : Vec F S100352 .i32)
    (v53 : Vec F S1x16 .i32) (v57 : IVec S16 32) (w : Vec F S3136 .i32) (c n : ℕ → BitVec 32) (o : ℕ)
    (e53 : ∀ k : Fin 16, (v53 (ix2 0 k) : BitVec 32) = n (o + k.val)) (e57 : ∀ k : Fin 16, v57 (ix1 k) = c (o + k.val))
    (b1 : ∀ a x, ((![idx v53] : Fin 1 → IVec S16 32) a x).toNat < S3136.size a)
    (b2 : ∀ a x, ((![v57] : Fin 1 → IVec S16 32) a x).toNat < S100352.size a) (x : ℕ) (hx : x < 100352) :
    at1 (storeIdx X (![v57] : Fin 1 → IVec S16 32) (k1_pay14 : Vec F S16 .i32) (mask v53 (loadIdx w (![idx v53] : Fin 1 → IVec S16 32) b1)) true b2
        : S100352.Idx → BitVec 32) x
      = at1 (X : S100352.Idx → BitVec 32) x + ∑ k ∈ Finset.range 16, inc (at1 (w : S3136.Idx → BitVec 32)) m (c (o + k)) (n (o + k)) x := by
  refine (storeIdx_add X v57 k1_pay14 _ b2 x hx).trans (congrArg (_ + ·) ?_)
  rw [Finset.sum_range]
  refine Finset.sum_congr rfl fun k _ => ?_
  have hlk : (loadIdx w (![idx v53] : Fin 1 → IVec S16 32) b1 (ix1 k) : BitVec 32)
      = at1 (w : S3136.Idx → BitVec 32) ((n (o + k.val)).toNat / 32) :=
    at1_of (w : S3136.Idx → BitVec 32) (idxAt (s := S3136) (![idx v53] : Fin 1 → IVec S16 32) b1 (ix1 k)) _
      ((hidx v53 k).trans (by rw [e53]))
  unfold inc
  refine if_congr ?_ rfl rfl
  rw [e57, and_comm]
  refine and_congr Iff.rfl ((hmask v53 _ k).trans ?_)
  rw [hlk, e53]

/-- The group's step: from a histogram holding `base` plus the first `16 t` edges of the buffer to one holding the first `16 (t + 1)`. -/
theorem wp_group (d : Dev nD) (i : grid1.Coords) {buf : Memref sig .scVector .vmem S2x2560 .i32} {hist : Memref sig .scVector .vmem S100352 .i32}
    {pk : Memref sig .scVector .vmem S3136 .i32} {off1 off0 : Fin 2 → ℕ} {t : ℕ} (ht : t < 160) (h1 : off1 = ![1, 16 * t]) (h0 : off0 = ![0, 16 * t])
    {inb1 : ∀ a, off1 a + S1x16.size a ≤ S2x2560.size a} {inb0 : ∀ a, off0 a + S1x16.size a ≤ S2x2560.size a}
    {C2 C1 : IVec S16 32 → Prop} {d2 : ∀ v, Decidable (C2 v)} {d1 : ∀ v, Decidable (C1 v)}
    {i2 : ∀ v, C2 v → ∀ a x, ((![v] : Fin 1 → IVec S16 32) a x).toNat < S100352.size a}
    {i1 : ∀ v, C1 v → ∀ a x, ((![v] : Fin 1 → IVec S16 32) a x).toNat < S3136.size a}
    (hC2 : ∀ v, (∀ a x, ((![v] : Fin 1 → IVec S16 32) a x).toNat < S100352.size a) → C2 v)
    (hC1 : ∀ v, (∀ a x, ((![v] : Fin 1 → IVec S16 32) a x).toNat < S3136.size a) → C1 v)
    {idx : Vec F S1x16 .i32 → IVec S16 32} (hidx : IdxOk idx)
    {mask : Vec F S1x16 .i32 → Vec F S16 .i32 → IVec S16 1} {m : BitVec 32} (hmask : MaskOk mask m)
    (Y : Vec F S2x2560 .i32) (hY : ∀ r k, (at2 (Y : S2x2560.Idx → BitVec 32) r k).toNat < 100000) (w : Vec F S3136 .i32)
    (base : ℕ → BitVec 32) {Q : Unit → sProp 𝕄} :
    iprop((owns (V d ((i 0).castLE hcore1) ((i 1).castLE hsub1)) buf fullShare Y : sProp 𝕄)
        ∗ owns (V d ((i 0).castLE hcore1) ((i 1).castLE hsub1)) pk fullShare w
        ∗ ∃ X, ⌜∀ x < 100352, at1 (X : S100352.Idx → BitVec 32) x
              = base x + ∑ k ∈ Finset.range (16 * t), inc (at1 (w : S3136.Idx → BitVec 32)) m (at2 (Y : S2x2560.Idx → BitVec 32) 0 k) (at2 (Y : S2x2560.Idx → BitVec 32) 1 k) x⌝
            ∗ owns (V d ((i 0).castLE hcore1) ((i 1).castLE hsub1)) hist fullShare X)
      ⊢ iprop((iprop(owns (V d ((i 0).castLE hcore1) ((i 1).castLE hsub1)) buf fullShare Y
            ∗ owns (V d ((i 0).castLE hcore1) ((i 1).castLE hsub1)) pk fullShare w
            ∗ ∃ X, ⌜∀ x < 100352, at1 (X : S100352.Idx → BitVec 32) x
                  = base x + ∑ k ∈ Finset.range (16 * (t + 1)), inc (at1 (w : S3136.Idx → BitVec 32)) m (at2 (Y : S2x2560.Idx → BitVec 32) 0 k) (at2 (Y : S2x2560.Idx → BitVec 32) 1 k) x⌝
                ∗ owns (V d ((i 0).castLE hcore1) ((i 1).castLE hsub1)) hist fullShare X) -∗ Q ⟨⟩)
          -∗ tileWp d ((i 0).castLE hcore1) ((i 1).castLE hsub1)
              (grpProg i buf hist pk off1 off0 inb1 inb0 C2 C1 d2 d1 i2 i1 idx mask k1_pay14) Q) := by
  iintro ⟨Hb, Hp, %X, %hX, Hh⟩ Hk
  unfold grpProg
  obtain ⟨v53, hv53⟩ : ∃ v : Vec F S1x16 .i32, ∀ x, v x = Y ((Rect.unit (s := S2x2560) off1 S1x16.size inb1).emb x) := ⟨_, fun _ => rfl⟩
  obtain ⟨v57l, hv57l⟩ : ∃ v : Vec F S1x16 .i32, ∀ x, v x = Y ((Rect.unit (s := S2x2560) off0 S1x16.size inb0).emb x) := ⟨_, fun _ => rfl⟩
  obtain ⟨v57, hv57⟩ : ∃ v : IVec S16 32, shapeCast S16 v57l shapeCasts_S1x16_S16 = v := ⟨_, rfl⟩
  have e53 (k : Fin 16) : (v53 (ix2 0 k) : BitVec 32) = at2 (Y : S2x2560.Idx → BitVec 32) 1 (16 * t + k.val) := by
    rw [hv53]; exact at2_row h1 inb1 Y k
  have e57 (k : Fin 16) : (v57 (ix1 k) : BitVec 32) = at2 (Y : S2x2560.Idx → BitVec 32) 0 (16 * t + k.val) := by
    rw [← hv57]; exact (castRow v57l k).trans ((hv57l _).trans (at2_row h0 inb0 Y k))
  have b2 : ∀ a x, ((![(v57 : IVec S16 32)] : Fin 1 → IVec S16 32) a x).toNat < S100352.size a := by
    intro a x
    obtain rfl : a = 0 := Subsingleton.elim _ _
    obtain ⟨k, rfl⟩ : ∃ k : Fin 16, x = ix1 k := ⟨x 0, eq_ix1 x⟩
    change (v57 (ix1 k) : BitVec 32).toNat < 100352
    have := hY 0 (16 * t + k.val)
    rw [e57]; omega
  have b1 : ∀ a x, ((![idx v53] : Fin 1 → IVec S16 32) a x).toNat < S3136.size a := by
    intro a x
    obtain rfl : a = 0 := Subsingleton.elim _ _
    obtain ⟨k, rfl⟩ : ∃ k : Fin 16, x = ix1 k := ⟨x 0, eq_ix1 x⟩
    change ((idx v53) (ix1 k)).toNat < 3136
    have := hY 1 (16 * t + k.val)
    rw [hidx, e53]; omega
  iapply (wp_load_owns d _ _ hv53) $$ Hb
  iintro Hb
  iapply (wp_load_owns d _ _ hv57l) $$ Hb
  iintro Hb
  dsimp only
  rw [hv57]
  iapply (wp_assume_owns d _ _ (hC2 v57 b2))
  iapply (wp_assume_owns d _ _ (hC1 (idx v53) b1))
  iapply (wp_loadIdx_owns d _ _) $$ Hp
  iintro Hp
  iapply (wp_storeIdx_owns d _ _) $$ Hh
  iintro Hh
  iapply (Entails.of_eq (wp_pure _ _ _ _ _).symm)
  imodintro
  iapply Hk
  isplitl [Hb]; · iexact Hb
  isplitl [Hp]; · iexact Hp
  iexists _; isplitr
  swap; · iexact Hh
  ipureintro
  intro x hx
  refine (group_value hidx hmask X v53 v57 w _ _ (16 * t) e53 e57 b1 b2 x hx).trans ?_
  rw [hX x hx, add_assoc, show 16 * (t + 1) = 16 * t + 16 by ring, Finset.sum_range_add]

/-! ## The kernel's four groups -/

theorem idxOk_shr {idx : Vec F S1x16 .i32 → IVec S16 32}
    (h : ∀ v, idx v = shrui (shapeCast S16 v shapeCasts_S1x16_S16 : IVec S16 32) (broadcast S16 5#32)) : IdxOk idx := by
  intro v k
  rw [h]
  change (IntOp.shrui .vector ((shapeCast S16 v shapeCasts_S1x16_S16 : Vec F S16 .i32) (ix1 k) : BitVec 32) 5#32).toNat = _
  rw [castRow]
  unfold IntOp.shrui
  rw [if_pos (by decide)]
  change ((v (ix2 0 k) : BitVec 32) >>> 5).toNat = _
  rw [BitVec.toNat_ushiftRight, Nat.shiftRight_eq_div_pow]

theorem maskOk_of {mask : Vec F S1x16 .i32 → Vec F S16 .i32 → IVec S16 1} (m : BitVec 32)
    (h : ∀ v w, mask v w = cmpi .eq (andi (shrui (w : IVec S16 32) (andi (shapeCast S16 v shapeCasts_S1x16_S16 : IVec S16 32) (broadcast S16 31#32)))
      (broadcast S16 1#32)) (broadcast S16 m)) : MaskOk mask m := by
  intro v w k
  rw [h]
  change IntOp.cmpi .eq (IntOp.andi (IntOp.shrui .vector (w (ix1 k) : BitVec 32)
    (IntOp.andi ((shapeCast S16 v shapeCasts_S1x16_S16 : Vec F S16 .i32) (ix1 k) : BitVec 32) 31#32)) 1#32) m = 1#1 ↔ _
  rw [castRow]
  have h31 : (IntOp.andi (v (ix2 0 k) : BitVec 32) 31#32).toNat = (v (ix2 0 k) : BitVec 32).toNat % 32 := by
    change ((v (ix2 0 k) : BitVec 32) &&& 31#32).toNat = _
    rw [BitVec.toNat_and]
    exact Nat.and_two_pow_sub_one_eq_mod _ 5
  unfold IntOp.shrui
  rw [if_pos (by rw [h31]; omega)]
  change BitVec.ofBool (((w (ix1 k) : BitVec 32) >>> (IntOp.andi (v (ix2 0 k) : BitVec 32) 31#32)) &&& 1#32 == m) = 1#1 ↔ _
  rw [BitVec.ushiftRight_eq', h31]
  generalize ((w (ix1 k) : BitVec 32) >>> ((v (ix2 0 k) : BitVec 32).toNat % 32)) &&& 1#32 = z
  cases hz : (z == m) <;> simp_all

theorem idx2 : IdxOk (F := F) k1_pay2 := idxOk_shr fun _ => rfl
theorem idx5 : IdxOk (F := F) k1_pay5 := idxOk_shr fun _ => rfl
theorem idx8 : IdxOk (F := F) k1_pay8 := idxOk_shr fun _ => rfl
theorem idx11 : IdxOk (F := F) k1_pay11 := idxOk_shr fun _ => rfl
theorem mask3 : MaskOk (F := F) k1_pay3 1#32 := maskOk_of _ fun _ _ => rfl
theorem mask6 : MaskOk (F := F) k1_pay6 1#32 := maskOk_of _ fun _ _ => rfl
theorem mask9 : MaskOk (F := F) k1_pay9 0#32 := maskOk_of _ fun _ _ => rfl
theorem mask12 : MaskOk (F := F) k1_pay12 0#32 := maskOk_of _ fun _ _ => rfl

end Cert.Proof.Hist
-- ==== Proof.Trip.lean ====
/-
  A trip over two buffers: each buffer is waited for, its 2560 edges are added into the histogram, and the copy of the
  buffer's next chunk is started.
-/
module

public import proofs.«01_k».proof.Proof.Group

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The thread of a tile. -/
abbrev thr (d : Dev nD) (i : grid1.Coords) : Thread nD τ := V d ((i 0).castLE hcore1) ((i 1).castLE hsub1)

/-- The weakest precondition of a program of the tile at `i`. -/
abbrev tWp (d : Dev nD) (i : grid1.Coords) {α : Type} (p : TileProg F i α) (Q : α → sProp (MT nD τ sig (HIx 1) (Elt F) ℕ UU ℕ)) :
    sProp (MT nD τ sig (HIx 1) (Elt F) ℕ UU ℕ) :=
  tileWp d ((i 0).castLE hcore1) ((i 1).castLE hsub1) p Q

/-! ## Values -/

/-- Chunk `ch` of an edge array: its 2560 edges. -/
def chunkOf (A : S2x3200000.Idx → BitVec 32) (ch : ℕ) : S2x2560.Idx → BitVec 32 := fun x => at2 A (x 0).val (2560 * ch + (x 1).val)

/-- How many of chunk `ch`'s edges count for clause `x`. -/
def chunkSum (w : ℕ → BitVec 32) (m : BitVec 32) (A : S2x3200000.Idx → BitVec 32) (ch x : ℕ) : BitVec 32 :=
  ∑ k ∈ Finset.range 2560, inc w m (at2 A 0 (2560 * ch + k)) (at2 A 1 (2560 * ch + k)) x

theorem chunk_at2 (A : S2x3200000.Idx → BitVec 32) (ch r k : ℕ) (hr : r < 2) (hk : k < 2560) :
    at2 (chunkOf A ch) r k = at2 A r (2560 * ch + k) :=
  (at2_of (chunkOf A ch) (ix2 ⟨r, hr⟩ ⟨k, hk⟩) r k rfl rfl).symm

theorem chunk_lt {A : S2x3200000.Idx → BitVec 32} (hA : ∀ r k, (at2 A r k).toNat < 100000) (ch r k : ℕ) :
    (at2 (chunkOf A ch) r k).toNat < 100000 := by
  by_cases hr : r < 2
  · by_cases hk : k < 2560
    · rw [chunk_at2 A ch r k hr hk]; exact hA _ _
    · unfold at2; rw [dif_neg (by rintro ⟨_, h⟩; exact hk h)]; decide
  · unfold at2; rw [dif_neg (by rintro ⟨h, _⟩; exact hr h)]; decide

theorem chunk_emb {off : Fin 2 → ℕ} {ch : ℕ} (ho : off = ![0, 2560 * ch]) (inb : ∀ a, off a + S2x2560.size a ≤ S2x3200000.size a)
    (A : S2x3200000.Idx → BitVec 32) : (fun x => A ((Rect.unit (s := S2x3200000) off S2x2560.size inb).emb x)) = chunkOf A ch := by
  subst ho
  funext x
  refine at2_of _ _ _ _ ?_ ?_
  · simp [Rect.emb_apply]
  · simp [Rect.emb_apply]

theorem chunk_total (w : ℕ → BitVec 32) (m : BitVec 32) (A : S2x3200000.Idx → BitVec 32) (ch x : ℕ) :
    ∑ k ∈ Finset.range 2560, inc w m (at2 (chunkOf A ch) 0 k) (at2 (chunkOf A ch) 1 k) x = chunkSum w m A ch x := by
  refine Finset.sum_congr rfl fun k hk => ?_
  have hk := Finset.mem_range.mp hk
  rw [chunk_at2 A ch 0 k (by decide) hk, chunk_at2 A ch 1 k (by decide) hk]

/-! ## The loop over a buffer -/

section Loop

variable (d : Dev nD) (i : grid1.Coords) (buf : Memref sig .scVector .vmem S2x2560 .i32) (hist : Memref sig .scVector .vmem S100352 .i32)
  (pk : Memref sig .scVector .vmem S3136 .i32)

/-- The histogram holds `f`. -/
def histSt (f : ℕ → BitVec 32) : sProp 𝕄 :=
  iprop(∃ X, ⌜∀ x < 100352, at1 (X : S100352.Idx → BitVec 32) x = f x⌝ ∗ owns (thr d i) hist fullShare X)

/-- During the loop over a buffer: the histogram holds `base` and the buffer's first `n` edges. -/
def grpSt (Y : Vec F S2x2560 .i32) (w : Vec F S3136 .i32) (m : BitVec 32) (base : ℕ → BitVec 32) (n : ℕ) : sProp 𝕄 :=
  iprop(owns (thr d i) buf fullShare Y ∗ owns (thr d i) pk fullShare w
    ∗ ∃ X, ⌜∀ x < 100352, at1 (X : S100352.Idx → BitVec 32) x
          = base x + ∑ k ∈ Finset.range n, inc (at1 (w : S3136.Idx → BitVec 32)) m (at2 (Y : S2x2560.Idx → BitVec 32) 0 k) (at2 (Y : S2x2560.Idx → BitVec 32) 1 k) x⌝
        ∗ owns (thr d i) hist fullShare X)

/-- A loop body that adds sixteen edges a trip. -/
def Adds (m : BitVec 32) {n : ℕ} (body : Fin n → Unit → TileProg F i Unit) : Prop :=
  ∀ (t : Fin n) (acc : Unit) (Y : Vec F S2x2560 .i32), (∀ r k, (at2 (Y : S2x2560.Idx → BitVec 32) r k).toNat < 100000) →
    ∀ (w : Vec F S3136 .i32) (base : ℕ → BitVec 32),
      grpSt d i buf hist pk Y w m base (16 * t.val) ⊢ tWp d i (body t acc) fun _ => grpSt d i buf hist pk Y w m base (16 * (t.val + 1))

theorem adds_of {m : BitVec 32} {n : ℕ} (hn : n = 160) (body : Fin n → Unit → TileProg F i Unit) {off1 off0 : Fin n → Fin 2 → ℕ}
    {inb1 : ∀ t a, off1 t a + S1x16.size a ≤ S2x2560.size a} {inb0 : ∀ t a, off0 t a + S1x16.size a ≤ S2x2560.size a}
    {C2 C1 : IVec S16 32 → Prop} {d2 : ∀ v, Decidable (C2 v)} {d1 : ∀ v, Decidable (C1 v)}
    {i2 : ∀ v, C2 v → ∀ a x, ((![v] : Fin 1 → IVec S16 32) a x).toNat < S100352.size a}
    {i1 : ∀ v, C1 v → ∀ a x, ((![v] : Fin 1 → IVec S16 32) a x).toNat < S3136.size a}
    {idx : Vec F S1x16 .i32 → IVec S16 32} {mask : Vec F S1x16 .i32 → Vec F S16 .i32 → IVec S16 1}
    (hbody : ∀ t acc, body t acc = grpProg i buf hist pk (off1 t) (off0 t) (inb1 t) (inb0 t) C2 C1 d2 d1 i2 i1 idx mask k1_pay14)
    (h1 : ∀ t, off1 t = ![1, 16 * t.val]) (h0 : ∀ t, off0 t = ![0, 16 * t.val])
    (hC2 : ∀ v, (∀ a x, ((![v] : Fin 1 → IVec S16 32) a x).toNat < S100352.size a) → C2 v)
    (hC1 : ∀ v, (∀ a x, ((![v] : Fin 1 → IVec S16 32) a x).toNat < S3136.size a) → C1 v)
    (hidx : IdxOk idx) (hmask : MaskOk mask m) : Adds d i buf hist pk m body := by
  intro t acc Y hY w base
  rw [hbody]
  unfold grpSt
  iintro H
  iapply (wp_group d i (hn ▸ t.isLt) (h1 t) (h0 t) hC2 hC1 hidx hmask Y hY w base) $$ H
  iintro H
  iexact H

/-- The whole loop over a buffer holding a chunk adds the chunk. -/
theorem wp_groups {m : BitVec 32} {L : Scf.Loop 32} (hL : L.trips = 160) {ok : L.OK} {body : Fin L.trips → Unit → TileProg F i Unit}
    (hb : Adds d i buf hist pk m body) {A : S2x3200000.Idx → BitVec 32} (hA : ∀ r k, (at2 A r k).toNat < 100000) (ch : ℕ)
    (w : Vec F S3136 .i32) (base : ℕ → BitVec 32) {β : Type} {kk : Unit → TileProg F i β} {Q : β → sProp 𝕄} :
    iprop((owns (thr d i) buf fullShare (chunkOf A ch : Vec F S2x2560 .i32) : sProp 𝕄) ∗ owns (thr d i) pk fullShare w ∗ histSt d i hist base)
      ⊢ iprop((iprop(owns (thr d i) buf fullShare (chunkOf A ch : Vec F S2x2560 .i32) ∗ owns (thr d i) pk fullShare w
            ∗ histSt d i hist fun x => base x + chunkSum (at1 (w : S3136.Idx → BitVec 32)) m A ch x) -∗ tWp d i (kk ⟨⟩) Q)
          -∗ tWp d i (Scf.Loop.for L ok ⟨⟩ body >>= kk) Q) := by
  unfold histSt
  iintro ⟨Hb, Hp, %X, %hX, Hh⟩ Hk
  iapply (Scf.wp_for_bind frame (wpE (defs₀ (F := F)) 𝒱₀ (thr d i) none) Set.univ L.lb L.ub L.st ok ⟨⟩ body
    (fun n _ => grpSt d i buf hist pk (chunkOf A ch) w m base (16 * n))
    (fun t acc => hb t acc _ (chunk_lt hA ch) w base)) $$ [Hb Hp Hh]
  · unfold grpSt
    isplitl [Hb]; · iexact Hb
    isplitl [Hp]; · iexact Hp
    iexists X; isplitr
    swap; · iexact Hh
    ipureintro
    intro x hx
    simp [hX x hx]
  iintro %acc H
  rw [show Scf.trips L.lb L.ub L.st = 160 from hL]
  unfold grpSt
  icases H with ⟨Hb, Hp, %X', %hX', Hh⟩
  iapply Hk
  isplitl [Hb]; · iexact Hb
  isplitl [Hp]; · iexact Hp
  iexists X'; isplitr
  swap; · iexact Hh
  ipureintro
  intro x hx
  rw [hX' x hx]
  exact congrArg (base x + ·) (chunk_total _ _ _ _ _)

end Loop

/-! ## A buffer's two states -/

section Buffer

variable (d : Dev nD) (i : grid1.Coords) (edges : Memref sig .scVector .hbm S2x3200000 .i32) (q : PosShare TreeShare) (A : S2x3200000.Idx → BitVec 32)
  (buf : Memref sig .scVector .vmem S2x2560 .i32) (sm : DmaSem sig)

/-- The buffer's copy is not in flight. -/
def idleSt : sProp 𝕄 :=
  iprop((∃ Y : Vec F S2x2560 .i32, owns (thr d i) buf fullShare Y) ∗ owns (thr d i) edges q (A : Vec F S2x3200000 .i32)
    ∗ semVal (thr d i, SemLoc.dma sm) 0)

/-- The copy of chunk `ch` into the buffer is in flight. -/
def flySt (ch : ℕ) : sProp 𝕄 :=
  Fl d ((i 0).castLE hcore1) ((i 1).castLE hsub1) sm buf.view.dmaCredit
    iprop(owns (thr d i) buf fullShare (chunkOf A ch : Vec F S2x2560 .i32) ∗ owns (thr d i) edges q (A : Vec F S2x3200000 .i32))

/-- Before the tile's `n`-th chunk: in flight if there is one. -/
def bufSt (wid nk n : ℕ) : sProp 𝕄 := if n < nk then flySt d i edges q A buf sm (wid + 32 * n) else idleSt d i edges q A buf sm

/-- The tile's waits stay among those it may make. -/
def owesSt (O : CellTallies nD τ sig (HIx 1)) (W : Waits sig (HIx 1)) : sProp 𝕄 :=
  iprop(∃ W', ⌜∀ p ∈ W', p ∈ W ∨ p.2 = none⌝ ∗ owes (thr d i) O W')

end Buffer

/-- The start of the copy of chunk `ch`. -/
theorem wp_start (d : Dev nD) (i : grid1.Coords) {edges : Memref sig .scVector .hbm S2x3200000 .i32} {q : PosShare TreeShare}
    {A : S2x3200000.Idx → BitVec 32} {buf : Memref sig .scVector .vmem S2x2560 .i32} {sm : DmaSem sig} {off : Fin 2 → ℕ} {ch : ℕ}
    (ho : off = ![0, 2560 * ch]) {inb : ∀ a, off a + S2x2560.size a ≤ S2x3200000.size a}
    {hr : ∀ a, (Rect.unit (s := S2x3200000) off S2x2560.size inb).stride a = 1}
    {hsrc : (edges.slice (Rect.unit (s := S2x3200000) off S2x2560.size inb) hr).view.WordExact} {hdst : buf.view.WordExact}
    {hsem : DmaTarget.Typed (nD := nD) (τ := τ) (sig := sig) .hbm (.dma sm) (DmaTarget.here (p := .scVector ((i 0).castLE hcore1) ((i 1).castLE hsub1)) buf)}
    {β : Type} {kk : PUnit → TileProg F i β} {Q : β → sProp 𝕄} :
    idleSt d i edges q A buf sm
      ⊢ iprop((flySt d i edges q A buf sm ch -∗ tWp d i (kk ⟨⟩) Q)
          -∗ tWp d i (Prog.lift (.enqueueDma (edges.slice (Rect.unit (s := S2x3200000) off S2x2560.size inb) hr) (.here buf) (.dma sm) hsrc hdst hsem) >>= kk) Q) := by
  unfold idleSt flySt
  iintro ⟨⟨%Y, Hb⟩, HA, Hv⟩ Hk
  iapply (wp_fetch_owns d _ _ (r := Rect.unit (s := S2x3200000) off S2x2560.size inb) (A := (A : Vec F S2x3200000 .i32)) (show 0 < S2x2560.numel by decide)) $$ [Hb HA Hv]
  · isplitl [HA]; · iexact HA
    isplitl [Hb]; · iexact Hb
    iexact Hv
  rw [← chunk_emb ho inb A]
  iexact Hk

/-- Wait for a buffer and add its edges, if there is a chunk. -/
def waitGrp {i : grid1.Coords} {β : Type} (C : Prop) [Decidable C] (sm : DmaSem sig) (srcw : Memref sig .scVector .hbm S2x2560 .i32)
    (buf : Memref sig .scVector .vmem S2x2560 .i32) (hsrc : srcw.view.WordExact) (hdst : buf.view.WordExact) (L : Scf.Loop 32) (ok : C → L.OK)
    (body : C → Fin L.trips → Unit → TileProg F i Unit) (kk : TileProg F i β) : TileProg F i β :=
  if h : C then Prog.lift (.waitDma2 sm srcw buf hsrc hdst) >>= fun _ => Scf.Loop.for L (ok h) ⟨⟩ (body h) >>= fun _ => kk else kk

/-- Start the copy of a buffer's next chunk, if there is one. -/
def refill {i : grid1.Coords} {β : Type} (C : Prop) [Decidable C] (edges : Memref sig .scVector .hbm S2x3200000 .i32) (off : Fin 2 → ℕ)
    (inb : C → ∀ a, off a + S2x2560.size a ≤ S2x3200000.size a) (buf : Memref sig .scVector .vmem S2x2560 .i32) (hbuf : buf.IsWhole) (sm : DmaSem sig)
    (kk : TileProg F i β) : TileProg F i β :=
  if h : C then Prog.lift (.enqueueDma (edges.slice (Rect.unit (s := S2x3200000) off S2x2560.size (inb h)) (fun _ => rfl)) (.here buf) (.dma sm)
    (View.wordExact_bits rfl) hbuf.wordExact ⟨Or.inl rfl, trivial⟩) >>= fun _ => kk else kk

theorem wp_waitGrp (d : Dev nD) (i : grid1.Coords) {edges : Memref sig .scVector .hbm S2x3200000 .i32} {q : PosShare TreeShare}
    {A : S2x3200000.Idx → BitVec 32} (hA : ∀ r k, (at2 A r k).toNat < 100000) {buf : Memref sig .scVector .vmem S2x2560 .i32} {sm : DmaSem sig}
    {hist : Memref sig .scVector .vmem S100352 .i32} {pk : Memref sig .scVector .vmem S3136 .i32} {m : BitVec 32} {wid nk n : ℕ}
    {C : Prop} [Decidable C] (hC : C ↔ n < nk) {srcw : Memref sig .scVector .hbm S2x2560 .i32} {hsrc : srcw.view.WordExact} {hdst : buf.view.WordExact}
    {L : Scf.Loop 32} (hL : L.trips = 160) {ok : C → L.OK} {body : C → Fin L.trips → Unit → TileProg F i Unit} (hb : ∀ h, Adds d i buf hist pk m (body h))
    (w : Vec F S3136 .i32) (base : ℕ → BitVec 32) {O : CellTallies nD τ sig (HIx 1)} {W : Waits sig (HIx 1)}
    {β : Type} {kk : TileProg F i β} {Q : β → sProp 𝕄} :
    iprop(Transfers.MayWaits (thr d i) (none : HIx 1) O ∗ bufSt d i edges q A buf sm wid nk n ∗ owns (thr d i) pk fullShare w
        ∗ histSt d i hist (fun x => base x + ∑ j ∈ Finset.range (min n nk), chunkSum (at1 (w : S3136.Idx → BitVec 32)) m A (wid + 32 * j) x)
        ∗ owesSt d i O W)
      ⊢ iprop((iprop(idleSt d i edges q A buf sm ∗ owns (thr d i) pk fullShare w
            ∗ histSt d i hist (fun x => base x + ∑ j ∈ Finset.range (min (n + 1) nk), chunkSum (at1 (w : S3136.Idx → BitVec 32)) m A (wid + 32 * j) x)
            ∗ owesSt d i O W) -∗ tWp d i kk Q)
          -∗ tWp d i (waitGrp C sm srcw buf hsrc hdst L ok body kk) Q) := by
  unfold waitGrp bufSt
  by_cases h : C
  · have hn := hC.mp h
    rw [dif_pos h, if_pos hn]
    unfold flySt owesSt
    iintro ⟨Hmw, Hf, Hp, Hh, HO⟩ Hk
    iapply (wp_wait_owns d _ _ rfl) $$ [Hmw Hf HO]
    · isplitl [Hmw]; · iexact Hmw
      isplitl [Hf]; · iexact Hf
      iexact HO
    iintro ⟨⟨Hb, HA⟩, Hv, HO⟩
    iapply (wp_groups d i buf hist pk hL (hb h) hA (wid + 32 * n) w) $$ [Hb Hp Hh]
    · isplitl [Hb]; · iexact Hb
      isplitl [Hp]; · iexact Hp
      iexact Hh
    iintro ⟨Hb, Hp, Hh⟩
    iapply Hk
    unfold idleSt
    isplitl [Hb HA Hv]
    · isplitl [Hb]; · iexists _; iexact Hb
      isplitl [HA]; · iexact HA
      iexact Hv
    isplitl [Hp]; · iexact Hp
    isplitl [Hh]
    · rw [show min (n + 1) nk = n + 1 by omega, show min n nk = n by omega]
      simp only [Finset.sum_range_succ, add_assoc]
      iexact Hh
    iexact HO
  · have hn : ¬ n < nk := fun hn => h (hC.mpr hn)
    rw [dif_neg h, if_neg hn, show min (n + 1) nk = min n nk by omega]
    iintro ⟨-, H⟩ Hk
    iapply Hk
    iexact H

theorem wp_refill (d : Dev nD) (i : grid1.Coords) {edges : Memref sig .scVector .hbm S2x3200000 .i32} {q : PosShare TreeShare}
    {A : S2x3200000.Idx → BitVec 32} {buf : Memref sig .scVector .vmem S2x2560 .i32} {sm : DmaSem sig} {wid nk n : ℕ}
    {C : Prop} [Decidable C] (hC : C ↔ n < nk) {off : Fin 2 → ℕ} (ho : off = ![0, 2560 * (wid + 32 * n)])
    {inb : C → ∀ a, off a + S2x2560.size a ≤ S2x3200000.size a} {hbuf : buf.IsWhole} {β : Type} {kk : TileProg F i β} {Q : β → sProp 𝕄} :
    idleSt d i edges q A buf sm
      ⊢ iprop((bufSt d i edges q A buf sm wid nk n -∗ tWp d i kk Q) -∗ tWp d i (refill C edges off inb buf hbuf sm kk) Q) := by
  unfold refill bufSt
  by_cases h : C
  · rw [dif_pos h, if_pos (hC.mp h)]
    exact wp_start (F := F) d i ho (kk := fun _ => kk)
  · rw [dif_neg h, if_neg fun hn => h (hC.mpr hn)]
    iintro H Hk
    iapply Hk
    iexact H

/-! ## A trip -/

section Trip

variable (d : Dev nD) (i : grid1.Coords) (edges : Memref sig .scVector .hbm S2x3200000 .i32) (q0 q1 : PosShare TreeShare)
  (A : S2x3200000.Idx → BitVec 32) (buf0 buf1 : Memref sig .scVector .vmem S2x2560 .i32) (sm0 sm1 : DmaSem sig)
  (hist : Memref sig .scVector .vmem S100352 .i32) (pk : Memref sig .scVector .vmem S3136 .i32) (w : Vec F S3136 .i32) (m : BitVec 32)
  (base : ℕ → BitVec 32) (wid nk : ℕ) (O : CellTallies nD τ sig (HIx 1)) (W : Waits sig (HIx 1))

/-- Before trip `j`: the histogram holds the tile's first `2 j` chunks, and the next two are in flight. -/
def tripSt (j : ℕ) : sProp 𝕄 :=
  iprop(bufSt d i edges q0 A buf0 sm0 wid nk (2 * j) ∗ bufSt d i edges q1 A buf1 sm1 wid nk (2 * j + 1) ∗ owns (thr d i) pk fullShare w
    ∗ histSt d i hist (fun x => base x + ∑ n ∈ Finset.range (min (2 * j) nk), chunkSum (at1 (w : S3136.Idx → BitVec 32)) m A (wid + 32 * n) x)
    ∗ owesSt d i O W)

/-- One trip. -/
theorem wp_trip (hA : ∀ r k, (at2 A r k).toNat < 100000) (j : ℕ)
    {C1 C2 C3 C4 : Prop} [Decidable C1] [Decidable C2] [Decidable C3] [Decidable C4]
    (h1 : C1 ↔ 2 * j < nk) (h2 : C2 ↔ 2 * j + 2 < nk) (h3 : C3 ↔ 2 * j + 1 < nk) (h4 : C4 ↔ 2 * j + 3 < nk)
    {off2 off4 : Fin 2 → ℕ} (ho2 : off2 = ![0, 2560 * (wid + 32 * (2 * j + 2))]) (ho4 : off4 = ![0, 2560 * (wid + 32 * (2 * j + 3))])
    {srcw srcw' : Memref sig .scVector .hbm S2x2560 .i32} {hsrc : srcw.view.WordExact} {hsrc' : srcw'.view.WordExact}
    {hdst : buf0.view.WordExact} {hdst' : buf1.view.WordExact}
    {L L' : Scf.Loop 32} (hL : L.trips = 160) (hL' : L'.trips = 160) {ok : C1 → L.OK} {ok' : C3 → L'.OK}
    {body : C1 → Fin L.trips → Unit → TileProg F i Unit} {body' : C3 → Fin L'.trips → Unit → TileProg F i Unit}
    (hb : ∀ h, Adds d i buf0 hist pk m (body h)) (hb' : ∀ h, Adds d i buf1 hist pk m (body' h))
    {inb2 : C2 → ∀ a, off2 a + S2x2560.size a ≤ S2x3200000.size a} {inb4 : C4 → ∀ a, off4 a + S2x2560.size a ≤ S2x3200000.size a}
    {hb0 : buf0.IsWhole} {hb1 : buf1.IsWhole} {β : Type} (r : β) :
    iprop(Transfers.MayWaits (thr d i) (none : HIx 1) O ∗ tripSt d i edges q0 q1 A buf0 buf1 sm0 sm1 hist pk w m base wid nk O W j)
      ⊢ tWp d i (waitGrp C1 sm0 srcw buf0 hsrc hdst L ok body (refill C2 edges off2 inb2 buf0 hb0 sm0
          (waitGrp C3 sm1 srcw' buf1 hsrc' hdst' L' ok' body' (refill C4 edges off4 inb4 buf1 hb1 sm1 (pure r)))))
        fun _ => iprop(Transfers.MayWaits (thr d i) (none : HIx 1) O ∗ tripSt d i edges q0 q1 A buf0 buf1 sm0 sm1 hist pk w m base wid nk O W (j + 1)) := by
  unfold tripSt
  iintro ⟨#Hmw, H0, H1, Hp, Hh, HO⟩
  iapply (wp_waitGrp d i hA h1 hL hb w base) $$ [H0 Hp Hh HO]
  · isplitr; · iexact Hmw
    isplitl [H0]; · iexact H0
    isplitl [Hp]; · iexact Hp
    isplitl [Hh]; · iexact Hh
    iexact HO
  iintro ⟨H0, Hp, Hh, HO⟩
  iapply (wp_refill d i h2 ho2) $$ H0
  iintro H0
  iapply (wp_waitGrp d i hA h3 hL' hb' w base) $$ [H1 Hp Hh HO]
  · isplitr; · iexact Hmw
    isplitl [H1]; · iexact H1
    isplitl [Hp]; · iexact Hp
    isplitl [Hh]; · iexact Hh
    iexact HO
  iintro ⟨H1, Hp, Hh, HO⟩
  iapply (wp_refill d i h4 ho4) $$ H1
  iintro H1
  iapply (Entails.of_eq (wp_pure _ _ _ _ _).symm)
  imodintro
  isplitr; · iexact Hmw
  isplitl [H0]; · iexact H0
  isplitl [H1]; · iexact H1
  isplitl [Hp]; · iexact Hp
  isplitl [Hh]; · iexact Hh
  iexact HO

end Trip

end Cert.Proof.Hist
-- ==== Proof.Loops.lean ====
/-
  The kernel's own loops: each of its loops over a buffer adds that buffer's edges, and each of its trips is the trip of
  two buffers.
-/
module

public import proofs.«01_k».proof.Proof.Trip

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The tile's number among the 32. -/
def widOf (i : grid1.Coords) : ℕ := 2 * (i 1).val + (i 0).val
/-- How many chunks the tile takes: 1250 chunks dealt out in turn. -/
def nkOf (i : grid1.Coords) : ℕ := 39 + if widOf i < 2 then 1 else 0

instance (i : grid1.Coords) (n : ℕ) : Decidable (n < nkOf i) := Nat.decLt _ _

theorem cond1 : ∀ (i : grid1.Coords) (t : Fin k1_t2_loop.trips), k1_cond1 i t = 1#1 ↔ 2 * t.val < nkOf i := by decide +kernel
theorem cond2 : ∀ (i : grid1.Coords) (t : Fin k1_t2_loop.trips), k1_cond2 i t = 1#1 ↔ 2 * t.val + 2 < nkOf i := by decide +kernel
theorem cond3 : ∀ (i : grid1.Coords) (t : Fin k1_t2_loop.trips), k1_cond3 i t = 1#1 ↔ 2 * t.val + 1 < nkOf i := by decide +kernel
theorem cond4 : ∀ (i : grid1.Coords) (t : Fin k1_t2_loop.trips), k1_cond4 i t = 1#1 ↔ 2 * t.val + 3 < nkOf i := by decide +kernel
theorem cond5 : ∀ (i : grid1.Coords) (t : Fin k1_t5_loop.trips), k1_cond5 i t = 1#1 ↔ 2 * t.val < nkOf i := by decide +kernel
theorem cond6 : ∀ (i : grid1.Coords) (t : Fin k1_t5_loop.trips), k1_cond6 i t = 1#1 ↔ 2 * t.val + 2 < nkOf i := by decide +kernel
theorem cond7 : ∀ (i : grid1.Coords) (t : Fin k1_t5_loop.trips), k1_cond7 i t = 1#1 ↔ 2 * t.val + 1 < nkOf i := by decide +kernel
theorem cond8 : ∀ (i : grid1.Coords) (t : Fin k1_t5_loop.trips), k1_cond8 i t = 1#1 ↔ 2 * t.val + 3 < nkOf i := by decide +kernel

section Bodies

variable (d : Dev nD) (i : grid1.Coords) (arg2 : Memref sig .scVector .hbm S2x3200000 .i32) (harg2 : arg2.IsWhole)
  (arg3 : Memref sig .scVector .hbm S2x3200000 .i32) (harg3 : arg3.IsWhole) (arg4 : Memref sig .scVector .hbm S1x3136 .i32) (harg4 : arg4.IsWhole)
  (arg5 : Memref sig .scVector .hbm S3211264 .i32) (harg5 : arg5.IsWhole) (arg6 : Memref sig .scVector .vmem S100352 .i32) (harg6 : arg6.IsWhole)
  (arg7 : Memref sig .scVector .vmem S3136 .i32) (harg7 : arg7.IsWhole) (arg8 : Memref sig .scVector .vmem S2x2560 .i32) (harg8 : arg8.IsWhole)
  (arg9 : Memref sig .scVector .vmem S2x2560 .i32) (harg9 : arg9.IsWhole) (arg10 : DmaSems sig S_) (arg11 : DmaSems sig S_)
  (v29_r0 : DmaSems sig S_) (v29_r1 : DmaSems sig S_)

/-- The kernel's loop over a buffer adds its edges. -/
theorem adds3 (t2 : Fin k1_t2_loop.trips) (h : k1_cond1 i t2 = 1#1) :
    Adds (F := F) d i arg8 arg6 arg7 1#32 (k1_t3_body i arg2 harg2 arg3 harg3 arg4 harg4 arg5 harg5 arg6 harg6 arg7 harg7 arg8 harg8 arg9 harg9 arg10 arg11 v29_r0 v29_r1 (k1_pay14 : IVec S16 32) t2 h) :=
  adds_of (F := F) d i arg8 arg6 arg7 rfl _ (off1 := k1_off3) (off0 := k1_off4) (inb1 := fun t => k1_off3_inb i t2 t h)
    (inb0 := fun t => k1_off4_inb i t2 t h) (C2 := k1_chk2 i t2) (C1 := k1_chk1 i t2) (d2 := k1_chk2.dec i t2) (d1 := k1_chk1.dec i t2)
    (i2 := fun v hw => k1_idx2_inb i t2 v hw h) (i1 := fun v hw => k1_idx1_inb i t2 v hw h) (idx := k1_pay2) (mask := k1_pay3)
    (fun _ _ => rfl) k1_off3_eq k1_off4_eq (fun _ hv _ => hv) (fun _ hv _ => hv) idx2 mask3

/-- The kernel's loop over a buffer adds its edges. -/
theorem adds4 (t2 : Fin k1_t2_loop.trips) (h : k1_cond3 i t2 = 1#1) :
    Adds (F := F) d i arg9 arg6 arg7 1#32 (k1_t4_body i arg2 harg2 arg3 harg3 arg4 harg4 arg5 harg5 arg6 harg6 arg7 harg7 arg8 harg8 arg9 harg9 arg10 arg11 v29_r0 v29_r1 (k1_pay14 : IVec S16 32) t2 h) :=
  adds_of (F := F) d i arg9 arg6 arg7 rfl _ (off1 := k1_off6) (off0 := k1_off7) (inb1 := fun t => k1_off6_inb i t2 t h)
    (inb0 := fun t => k1_off7_inb i t2 t h) (C2 := k1_chk4 i t2) (C1 := k1_chk3 i t2) (d2 := k1_chk4.dec i t2) (d1 := k1_chk3.dec i t2)
    (i2 := fun v hw => k1_idx4_inb i t2 v hw h) (i1 := fun v hw => k1_idx3_inb i t2 v hw h) (idx := k1_pay5) (mask := k1_pay6)
    (fun _ _ => rfl) k1_off6_eq k1_off7_eq (fun _ hv _ => hv) (fun _ hv _ => hv) idx5 mask6

/-- The kernel's loop over a buffer adds its edges. -/
theorem adds6 (t2 : Fin k1_t5_loop.trips) (h : k1_cond5 i t2 = 1#1) :
    Adds (F := F) d i arg8 arg6 arg7 0#32 (k1_t6_body i arg2 harg2 arg3 harg3 arg4 harg4 arg5 harg5 arg6 harg6 arg7 harg7 arg8 harg8 arg9 harg9 arg10 arg11 v29_r0 v29_r1 (k1_pay14 : IVec S16 32) t2 h) :=
  adds_of (F := F) d i arg8 arg6 arg7 rfl _ (off1 := k1_off9) (off0 := k1_off10) (inb1 := fun t => k1_off9_inb i t2 t h)
    (inb0 := fun t => k1_off10_inb i t2 t h) (C2 := k1_chk6 i t2) (C1 := k1_chk5 i t2) (d2 := k1_chk6.dec i t2) (d1 := k1_chk5.dec i t2)
    (i2 := fun v hw => k1_idx6_inb i t2 v hw h) (i1 := fun v hw => k1_idx5_inb i t2 v hw h) (idx := k1_pay8) (mask := k1_pay9)
    (fun _ _ => rfl) k1_off9_eq k1_off10_eq (fun _ hv _ => hv) (fun _ hv _ => hv) idx8 mask9

/-- The kernel's loop over a buffer adds its edges. -/
theorem adds7 (t2 : Fin k1_t5_loop.trips) (h : k1_cond7 i t2 = 1#1) :
    Adds (F := F) d i arg9 arg6 arg7 0#32 (k1_t7_body i arg2 harg2 arg3 harg3 arg4 harg4 arg5 harg5 arg6 harg6 arg7 harg7 arg8 harg8 arg9 harg9 arg10 arg11 v29_r0 v29_r1 (k1_pay14 : IVec S16 32) t2 h) :=
  adds_of (F := F) d i arg9 arg6 arg7 rfl _ (off1 := k1_off12) (off0 := k1_off13) (inb1 := fun t => k1_off12_inb i t2 t h)
    (inb0 := fun t => k1_off13_inb i t2 t h) (C2 := k1_chk8 i t2) (C1 := k1_chk7 i t2) (d2 := k1_chk8.dec i t2) (d1 := k1_chk7.dec i t2)
    (i2 := fun v hw => k1_idx8_inb i t2 v hw h) (i1 := fun v hw => k1_idx7_inb i t2 v hw h) (idx := k1_pay11) (mask := k1_pay12)
    (fun _ _ => rfl) k1_off12_eq k1_off13_eq (fun _ hv _ => hv) (fun _ hv _ => hv) idx11 mask12

theorem body2_eq (t2 : Fin k1_t2_loop.trips) (acc : BitVec 32) :
    k1_t2_body i arg2 harg2 arg3 harg3 arg4 harg4 arg5 harg5 arg6 harg6 arg7 harg7 arg8 harg8 arg9 harg9 arg10 arg11 v29_r0 v29_r1 (k1_pay14 : IVec S16 32) t2 acc =
      (waitGrp (i := i) (k1_cond1 i t2 = 1#1) arg10.sem (arg2.slice (Rect.unit (s := S2x3200000) ![0, 0] S2x2560.size inb_S2x3200000_S2x2560_0_0) (fun _ => rfl)) arg8
        (View.wordExact_bits rfl) harg8.wordExact k1_t3_loop (k1_t3_ok i t2) (fun h => k1_t3_body i arg2 harg2 arg3 harg3 arg4 harg4 arg5 harg5 arg6 harg6 arg7 harg7 arg8 harg8 arg9 harg9 arg10 arg11 v29_r0 v29_r1 k1_pay14 t2 h)
        (refill (k1_cond2 i t2 = 1#1) arg2 (k1_off5 i t2) (k1_off5_inb i t2) arg8 harg8 arg10.sem
          (waitGrp (k1_cond3 i t2 = 1#1) arg11.sem (arg2.slice (Rect.unit (s := S2x3200000) ![0, 0] S2x2560.size inb_S2x3200000_S2x2560_0_0) (fun _ => rfl)) arg9
            (View.wordExact_bits rfl) harg9.wordExact k1_t4_loop (k1_t4_ok i t2) (fun h => k1_t4_body i arg2 harg2 arg3 harg3 arg4 harg4 arg5 harg5 arg6 harg6 arg7 harg7 arg8 harg8 arg9 harg9 arg10 arg11 v29_r0 v29_r1 k1_pay14 t2 h)
            (refill (k1_cond4 i t2 = 1#1) arg2 (k1_off8 i t2) (k1_off8_inb i t2) arg9 harg9 arg11.sem (pure 0#32))))
        : TileProg F i (BitVec 32)) := rfl

theorem body5_eq (t2 : Fin k1_t5_loop.trips) (acc : BitVec 32) :
    k1_t5_body i arg2 harg2 arg3 harg3 arg4 harg4 arg5 harg5 arg6 harg6 arg7 harg7 arg8 harg8 arg9 harg9 arg10 arg11 v29_r0 v29_r1 (k1_pay14 : IVec S16 32) t2 acc =
      (waitGrp (i := i) (k1_cond5 i t2 = 1#1) arg10.sem (arg3.slice (Rect.unit (s := S2x3200000) ![0, 0] S2x2560.size inb_S2x3200000_S2x2560_0_0) (fun _ => rfl)) arg8
        (View.wordExact_bits rfl) harg8.wordExact k1_t6_loop (k1_t6_ok i t2) (fun h => k1_t6_body i arg2 harg2 arg3 harg3 arg4 harg4 arg5 harg5 arg6 harg6 arg7 harg7 arg8 harg8 arg9 harg9 arg10 arg11 v29_r0 v29_r1 k1_pay14 t2 h)
        (refill (k1_cond6 i t2 = 1#1) arg3 (k1_off11 i t2) (k1_off11_inb i t2) arg8 harg8 arg10.sem
          (waitGrp (k1_cond7 i t2 = 1#1) arg11.sem (arg3.slice (Rect.unit (s := S2x3200000) ![0, 0] S2x2560.size inb_S2x3200000_S2x2560_0_0) (fun _ => rfl)) arg9
            (View.wordExact_bits rfl) harg9.wordExact k1_t7_loop (k1_t7_ok i t2) (fun h => k1_t7_body i arg2 harg2 arg3 harg3 arg4 harg4 arg5 harg5 arg6 harg6 arg7 harg7 arg8 harg8 arg9 harg9 arg10 arg11 v29_r0 v29_r1 k1_pay14 t2 h)
            (refill (k1_cond8 i t2 = 1#1) arg3 (k1_off14 i t2) (k1_off14_inb i t2) arg9 harg9 arg11.sem (pure 0#32))))
        : TileProg F i (BitVec 32)) := rfl

end Bodies

end Cert.Proof.Hist
-- ==== Proof.Body.lean ====
/-
  A tile's whole run: its histogram cleared, the packed words copied in, its chunks of the two edge arrays added, and the
  histogram copied out.
-/
module

public import proofs.«01_k».proof.Proof.Loops

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem k1_off5_chunk (i : grid1.Coords) (t : Fin k1_t2_loop.trips) : k1_off5 i t = ![0, 2560 * (widOf i + 32 * (2 * t.val + 2))] := by
  rw [k1_off5_eq]; unfold widOf; congr 2; ring
theorem k1_off8_chunk (i : grid1.Coords) (t : Fin k1_t2_loop.trips) : k1_off8 i t = ![0, 2560 * (widOf i + 32 * (2 * t.val + 3))] := by
  rw [k1_off8_eq]; unfold widOf; congr 2; ring

theorem k1_off11_chunk (i : grid1.Coords) (t : Fin k1_t5_loop.trips) : k1_off11 i t = ![0, 2560 * (widOf i + 32 * (2 * t.val + 2))] := by
  rw [k1_off11_eq]; unfold widOf; congr 2; ring
theorem k1_off14_chunk (i : grid1.Coords) (t : Fin k1_t5_loop.trips) : k1_off14 i t = ![0, 2560 * (widOf i + 32 * (2 * t.val + 3))] := by
  rw [k1_off14_eq]; unfold widOf; congr 2; ring

theorem k1_off1_first (i : grid1.Coords) : k1_off1 i 0#32 = ![0, 2560 * (widOf i + 32 * 0)] := by
  have h := k1_off1_eq i 0
  unfold widOf
  refine h.trans ?_
  congr 2; simp; ring
theorem k1_off1_second (i : grid1.Coords) : k1_off1 i 32#32 = ![0, 2560 * (widOf i + 32 * 1)] := by
  have h := k1_off1_eq i 1
  unfold widOf
  refine h.trans ?_
  congr 2; simp; ring

theorem le_nkOf (i : grid1.Coords) : 39 ≤ nkOf i := Nat.le_add_right _ _
theorem nkOf_le (i : grid1.Coords) : nkOf i ≤ 40 := by unfold nkOf; split <;> omega

theorem trips1 : k1_t1_loop.trips = 6272 := rfl
theorem trips2 : k1_t2_loop.trips = 20 := rfl
theorem trips3 : k1_t3_loop.trips = 160 := rfl
theorem trips4 : k1_t4_loop.trips = 160 := rfl
theorem trips5 : k1_t5_loop.trips = 20 := rfl
theorem trips6 : k1_t6_loop.trips = 160 := rfl
theorem trips7 : k1_t7_loop.trips = 160 := rfl

section Ends

variable (d : Dev nD) (i : grid1.Coords) (edges : Memref sig .scVector .hbm S2x3200000 .i32) (q0 q1 : PosShare TreeShare)
  (A : S2x3200000.Idx → BitVec 32) (buf0 buf1 : Memref sig .scVector .vmem S2x2560 .i32) (sm0 sm1 : DmaSem sig)
  (hist : Memref sig .scVector .vmem S100352 .i32) (pk : Memref sig .scVector .vmem S3136 .i32) (w : Vec F S3136 .i32) (m : BitVec 32)
  (base : ℕ → BitVec 32) (O : CellTallies nD τ sig (HIx 1)) (W : Waits sig (HIx 1))

/-- Before the first trip. -/
theorem tripSt_start :
    iprop(flySt d i edges q0 A buf0 sm0 (widOf i + 32 * 0) ∗ flySt d i edges q1 A buf1 sm1 (widOf i + 32 * 1) ∗ owns (thr d i) pk fullShare w
        ∗ histSt d i hist base ∗ owesSt d i O W)
      ⊢ tripSt d i edges q0 q1 A buf0 buf1 sm0 sm1 hist pk w m base (widOf i) (nkOf i) O W 0 := by
  have h := le_nkOf i
  unfold tripSt bufSt
  rw [if_pos (by omega), if_pos (by omega)]
  simp only [Nat.mul_zero, Nat.zero_add, Nat.zero_min, Finset.range_zero, Finset.sum_empty, add_zero]
  exact Entails.rfl

/-- After the last trip: every chunk is added and no copy is in flight. -/
theorem tripSt_end :
    tripSt d i edges q0 q1 A buf0 buf1 sm0 sm1 hist pk w m base (widOf i) (nkOf i) O W 20
      ⊢ iprop(idleSt d i edges q0 A buf0 sm0 ∗ idleSt d i edges q1 A buf1 sm1 ∗ owns (thr d i) pk fullShare w
        ∗ histSt d i hist (fun x => base x + ∑ n ∈ Finset.range (nkOf i), chunkSum (at1 (w : S3136.Idx → BitVec 32)) m A (widOf i + 32 * n) x)
        ∗ owesSt d i O W) := by
  have h := nkOf_le i
  unfold tripSt bufSt
  rw [if_neg (by omega), if_neg (by omega), show min (2 * 20) (nkOf i) = nkOf i by omega]

end Ends

attribute [local irreducible] waitGrp refill

section Bodies

variable (d : Dev nD) (i : grid1.Coords) (arg2 : Memref sig .scVector .hbm S2x3200000 .i32) (harg2 : arg2.IsWhole)
  (arg3 : Memref sig .scVector .hbm S2x3200000 .i32) (harg3 : arg3.IsWhole) (arg4 : Memref sig .scVector .hbm S1x3136 .i32) (harg4 : arg4.IsWhole)
  (arg5 : Memref sig .scVector .hbm S3211264 .i32) (harg5 : arg5.IsWhole) (arg6 : Memref sig .scVector .vmem S100352 .i32) (harg6 : arg6.IsWhole)
  (arg7 : Memref sig .scVector .vmem S3136 .i32) (harg7 : arg7.IsWhole) (arg8 : Memref sig .scVector .vmem S2x2560 .i32) (harg8 : arg8.IsWhole)
  (arg9 : Memref sig .scVector .vmem S2x2560 .i32) (harg9 : arg9.IsWhole) (arg10 : DmaSems sig S_) (arg11 : DmaSems sig S_)
  (v29_r0 : DmaSems sig S_) (v29_r1 : DmaSems sig S_)

/-- The loop over the tile's chunks of `arg2`: from the first two copies in flight to all chunks added. -/
theorem wp_loop2 {q0 q1 : PosShare TreeShare} {A : S2x3200000.Idx → BitVec 32} (hA : ∀ r k, (at2 A r k).toNat < 100000)
    (w : Vec F S3136 .i32) (base : ℕ → BitVec 32) (O : CellTallies nD τ sig (HIx 1)) (W : Waits sig (HIx 1)) {ok : k1_t2_loop.OK} {acc0 : BitVec 32}
    {β : Type} {kk : BitVec 32 → TileProg F i β} {Q : β → sProp 𝕄} :
    iprop(Transfers.MayWaits (thr d i) (none : HIx 1) O
        ∗ tripSt d i arg2 q0 q1 A arg8 arg9 arg10.sem arg11.sem arg6 arg7 w 1#32 base (widOf i) (nkOf i) O W 0)
      ⊢ iprop((∀ acc, iprop(tripSt d i arg2 q0 q1 A arg8 arg9 arg10.sem arg11.sem arg6 arg7 w 1#32 base (widOf i) (nkOf i) O W 20) -∗ tWp d i (kk acc) Q)
          -∗ tWp d i (Scf.Loop.for k1_t2_loop ok acc0 (k1_t2_body i arg2 harg2 arg3 harg3 arg4 harg4 arg5 harg5 arg6 harg6 arg7 harg7 arg8 harg8 arg9 harg9 arg10 arg11 v29_r0 v29_r1 (k1_pay14 : IVec S16 32)) >>= kk) Q) := by
  iintro H Hk
  iapply (Scf.wp_for_bind frame (wpE (defs₀ (F := F)) 𝒱₀ (thr d i) none) Set.univ k1_t2_loop.lb k1_t2_loop.ub k1_t2_loop.st ok acc0
    (k1_t2_body i arg2 harg2 arg3 harg3 arg4 harg4 arg5 harg5 arg6 harg6 arg7 harg7 arg8 harg8 arg9 harg9 arg10 arg11 v29_r0 v29_r1 (k1_pay14 : IVec S16 32))
    (fun n _ => iprop(Transfers.MayWaits (thr d i) (none : HIx 1) O
        ∗ tripSt d i arg2 q0 q1 A arg8 arg9 arg10.sem arg11.sem arg6 arg7 w 1#32 base (widOf i) (nkOf i) O W n)) ?_) $$ H
  · intro t acc
    rw [body2_eq]
    exact wp_trip (F := F) d i arg2 q0 q1 A arg8 arg9 arg10.sem arg11.sem arg6 arg7 w 1#32 base (widOf i) (nkOf i) O W hA t.val
      (cond1 i t) (cond2 i t) (cond3 i t) (cond4 i t) (k1_off5_chunk i t) (k1_off8_chunk i t)
      (srcw := arg2.slice (Rect.unit (s := S2x3200000) ![0, 0] S2x2560.size inb_S2x3200000_S2x2560_0_0) (fun _ => rfl))
      (srcw' := arg2.slice (Rect.unit (s := S2x3200000) ![0, 0] S2x2560.size inb_S2x3200000_S2x2560_0_0) (fun _ => rfl))
      (hsrc := View.wordExact_bits rfl) (hsrc' := View.wordExact_bits rfl) (hdst := harg8.wordExact) (hdst' := harg9.wordExact)
      trips3 trips4 (ok := k1_t3_ok i t) (ok' := k1_t4_ok i t)
      (inb2 := k1_off5_inb i t) (inb4 := k1_off8_inb i t) (hb0 := harg8) (hb1 := harg9)
      (adds3 d i arg2 harg2 arg3 harg3 arg4 harg4 arg5 harg5 arg6 harg6 arg7 harg7 arg8 harg8 arg9 harg9 arg10 arg11 v29_r0 v29_r1 t) (adds4 d i arg2 harg2 arg3 harg3 arg4 harg4 arg5 harg5 arg6 harg6 arg7 harg7 arg8 harg8 arg9 harg9 arg10 arg11 v29_r0 v29_r1 t) (0#32 : BitVec 32)
  iintro %acc ⟨-, H⟩
  iapply Hk $$ %acc
  iexact H

/-- The loop over the tile's chunks of `arg3`: from the first two copies in flight to all chunks added. -/
theorem wp_loop5 {q0 q1 : PosShare TreeShare} {A : S2x3200000.Idx → BitVec 32} (hA : ∀ r k, (at2 A r k).toNat < 100000)
    (w : Vec F S3136 .i32) (base : ℕ → BitVec 32) (O : CellTallies nD τ sig (HIx 1)) (W : Waits sig (HIx 1)) {ok : k1_t5_loop.OK} {acc0 : BitVec 32}
    {β : Type} {kk : BitVec 32 → TileProg F i β} {Q : β → sProp 𝕄} :
    iprop(Transfers.MayWaits (thr d i) (none : HIx 1) O
        ∗ tripSt d i arg3 q0 q1 A arg8 arg9 arg10.sem arg11.sem arg6 arg7 w 0#32 base (widOf i) (nkOf i) O W 0)
      ⊢ iprop((∀ acc, iprop(tripSt d i arg3 q0 q1 A arg8 arg9 arg10.sem arg11.sem arg6 arg7 w 0#32 base (widOf i) (nkOf i) O W 20) -∗ tWp d i (kk acc) Q)
          -∗ tWp d i (Scf.Loop.for k1_t5_loop ok acc0 (k1_t5_body i arg2 harg2 arg3 harg3 arg4 harg4 arg5 harg5 arg6 harg6 arg7 harg7 arg8 harg8 arg9 harg9 arg10 arg11 v29_r0 v29_r1 (k1_pay14 : IVec S16 32)) >>= kk) Q) := by
  iintro H Hk
  iapply (Scf.wp_for_bind frame (wpE (defs₀ (F := F)) 𝒱₀ (thr d i) none) Set.univ k1_t5_loop.lb k1_t5_loop.ub k1_t5_loop.st ok acc0
    (k1_t5_body i arg2 harg2 arg3 harg3 arg4 harg4 arg5 harg5 arg6 harg6 arg7 harg7 arg8 harg8 arg9 harg9 arg10 arg11 v29_r0 v29_r1 (k1_pay14 : IVec S16 32))
    (fun n _ => iprop(Transfers.MayWaits (thr d i) (none : HIx 1) O
        ∗ tripSt d i arg3 q0 q1 A arg8 arg9 arg10.sem arg11.sem arg6 arg7 w 0#32 base (widOf i) (nkOf i) O W n)) ?_) $$ H
  · intro t acc
    rw [body5_eq]
    exact wp_trip (F := F) d i arg3 q0 q1 A arg8 arg9 arg10.sem arg11.sem arg6 arg7 w 0#32 base (widOf i) (nkOf i) O W hA t.val
      (cond5 i t) (cond6 i t) (cond7 i t) (cond8 i t) (k1_off11_chunk i t) (k1_off14_chunk i t)
      (srcw := arg3.slice (Rect.unit (s := S2x3200000) ![0, 0] S2x2560.size inb_S2x3200000_S2x2560_0_0) (fun _ => rfl))
      (srcw' := arg3.slice (Rect.unit (s := S2x3200000) ![0, 0] S2x2560.size inb_S2x3200000_S2x2560_0_0) (fun _ => rfl))
      (hsrc := View.wordExact_bits rfl) (hsrc' := View.wordExact_bits rfl) (hdst := harg8.wordExact) (hdst' := harg9.wordExact)
      trips6 trips7 (ok := k1_t6_ok i t) (ok' := k1_t7_ok i t)
      (inb2 := k1_off11_inb i t) (inb4 := k1_off14_inb i t) (hb0 := harg8) (hb1 := harg9)
      (adds6 d i arg2 harg2 arg3 harg3 arg4 harg4 arg5 harg5 arg6 harg6 arg7 harg7 arg8 harg8 arg9 harg9 arg10 arg11 v29_r0 v29_r1 t) (adds7 d i arg2 harg2 arg3 harg3 arg4 harg4 arg5 harg5 arg6 harg6 arg7 harg7 arg8 harg8 arg9 harg9 arg10 arg11 v29_r0 v29_r1 t) (0#32 : BitVec 32)
  iintro %acc ⟨-, H⟩
  iapply Hk $$ %acc
  iexact H

/-- The array of packed words as the tile reads it: as one row of words. -/
abbrev pkSrc : Memref sig .scVector .hbm S3136 .i32 :=
  (arg4.slice (Rect.unit (s := S1x3136) ![0, 0] S1x3136.size inb_S1x3136_S1x3136_0_0) (fun _ => rfl)).squeeze S3136 squeezes_S1x3136_S3136

/-- The tile's part of the result. -/
abbrev outDst : Memref sig .scVector .hbm S100352 .i32 :=
  arg5.slice (Rect.unit (s := S3211264) (k1_off15 i) S100352.size (k1_off15_inb i)) (fun _ => rfl)

/-- The store of sixteen zeros extends the cleared part. -/
theorem zero_overlay (X : Vec F S100352 .i32) (t : Fin k1_t1_loop.trips) (hX : ∀ x < 16 * t.val, at1 (X : S100352.Idx → BitVec 32) x = 0#32) :
    ∀ x < 16 * (t.val + 1), at1 ((Rect.unit (s := S100352) (k1_off2 t) S16.size (k1_off2_inb t)).overlay X (k1_pay13 : Vec F S16 .i32) : S100352.Idx → BitVec 32) x = 0#32 := by
  intro x hx
  unfold at1
  split
  next h =>
    by_cases hlt : x < 16 * t.val
    swap
    · have he : (ix1 ⟨x, h⟩ : S100352.Idx)
          = (Rect.unit (s := S100352) (k1_off2 t) S16.size (k1_off2_inb t)).emb (ix1 (⟨x - 16 * t.val, by omega⟩ : Fin 16)) := by
        funext a
        obtain rfl : a = 0 := Subsingleton.elim _ _
        apply Fin.ext
        rw [Rect.emb_apply]
        simp only [k1_off2_eq]
        simp
        omega
      rw [he, Rect.overlay_emb]
      rfl
    by_cases hm : (ix1 ⟨x, h⟩ : S100352.Idx) ∈ (Rect.unit (s := S100352) (k1_off2 t) S16.size (k1_off2_inb t)).set
    · obtain ⟨j, hj⟩ := (Rect.unit (s := S100352) (k1_off2 t) S16.size (k1_off2_inb t)).exists_idx_of_mem hm
      rw [← hj]
      change (Rect.unit (s := S100352) (k1_off2 t) S16.size (k1_off2_inb t)).overlay X (k1_pay13 : Vec F S16 .i32) ((Rect.unit (s := S100352) (k1_off2 t) S16.size (k1_off2_inb t)).emb j) = _
      rw [Rect.overlay_emb]
      rfl
    · rw [Rect.overlay_of_not_mem _ _ _ hm]
      exact (at1_of (X : S100352.Idx → BitVec 32) (ix1 ⟨x, h⟩) x rfl).trans (hX x hlt)
  next => rfl

/-- Clearing the histogram. -/
theorem wp_clear {ok : k1_t1_loop.OK} {β : Type} {kk : Unit → TileProg F i β} {Q : β → sProp 𝕄} :
    iprop(∃ X : Vec F S100352 .i32, owns (thr d i) arg6 fullShare X)
      ⊢ iprop((histSt d i arg6 (fun _ => 0#32) -∗ tWp d i (kk ⟨⟩) Q)
          -∗ tWp d i (Scf.Loop.for k1_t1_loop ok ⟨⟩ (k1_t1_body i arg2 harg2 arg3 harg3 arg4 harg4 arg5 harg5 arg6 harg6 arg7 harg7 arg8 harg8 arg9 harg9 arg10 arg11 v29_r0 v29_r1) >>= kk) Q) := by
  iintro ⟨%X0, H⟩ Hk
  iapply (Scf.wp_for_bind frame (wpE (defs₀ (F := F)) 𝒱₀ (thr d i) none) Set.univ k1_t1_loop.lb k1_t1_loop.ub k1_t1_loop.st ok ⟨⟩
    (k1_t1_body i arg2 harg2 arg3 harg3 arg4 harg4 arg5 harg5 arg6 harg6 arg7 harg7 arg8 harg8 arg9 harg9 arg10 arg11 v29_r0 v29_r1)
    (fun n _ => iprop(∃ X, ⌜∀ x < 16 * n, at1 (X : S100352.Idx → BitVec 32) x = 0#32⌝ ∗ owns (thr d i) arg6 fullShare X)) ?_) $$ [H]
  · intro t acc
    iintro ⟨%X, %hX, H⟩
    unfold k1_t1_body
    obtain ⟨v, hv⟩ : ∃ v : Vec F S16 .i32, ∀ x, v x = X ((Rect.unit (s := S100352) (k1_off2 t) S16.size (k1_off2_inb t)).emb x) := ⟨_, fun _ => rfl⟩
    iapply (wp_load_owns d _ _ hv) $$ H
    iintro H
    iapply (wp_store_owns (F := F) d _ _) $$ H
    iintro H
    iapply (Entails.of_eq (wp_pure _ _ _ _ _).symm)
    imodintro
    iexists _; isplitr
    swap; · iexact H
    ipureintro
    exact zero_overlay (F := F) X t hX
  · iexists X0; isplitr
    swap; · iexact H
    ipureintro
    intro x hx; omega
  iintro %acc ⟨%X, %hX, H⟩
  iapply Hk
  unfold histSt
  iexists X; isplitr
  swap; · iexact H
  ipureintro
  intro x hx
  exact hX x (by rw [show Scf.trips k1_t1_loop.lb k1_t1_loop.ub k1_t1_loop.st = 6272 from trips1]; omega)

/-- The first part: two copies of `arg2`'s chunks started, the packed words copied in, the histogram cleared. -/
theorem wp_part1 {q0 q1 qw : PosShare TreeShare} {A : S2x3200000.Idx → BitVec 32} (w : Vec F S3136 .i32)
    (O : CellTallies nD τ sig (HIx 1)) (W : Waits sig (HIx 1)) :
    iprop(Transfers.MayWaits (thr d i) (none : HIx 1) O
        ∗ idleSt d i arg2 q0 A arg8 arg10.sem ∗ idleSt d i arg2 q1 A arg9 arg11.sem
        ∗ owns (thr d i) (pkSrc arg4) qw w ∗ (∃ Y : Vec F S3136 .i32, owns (thr d i) arg7 fullShare Y) ∗ semVal (thr d i, SemLoc.dma v29_r0.sem) 0
        ∗ (∃ X : Vec F S100352 .i32, owns (thr d i) arg6 fullShare X) ∗ owesSt d i O W)
      ⊢ tWp d i (k1_part1 i arg2 harg2 arg3 harg3 arg4 harg4 arg5 harg5 arg6 harg6 arg7 harg7 arg8 harg8 arg9 harg9 arg10 arg11 v29_r0 v29_r1) fun r => iprop(⌜∃ a b, r = ⟨a, b, k1_pay14, 0#32, 0#32, 1#32⟩⌝
        ∗ tripSt d i arg2 q0 q1 A arg8 arg9 arg10.sem arg11.sem arg6 arg7 w 1#32 (fun _ => 0#32) (widOf i) (nkOf i) O W 0
        ∗ owns (thr d i) (pkSrc arg4) qw w ∗ semVal (thr d i, SemLoc.dma v29_r0.sem) 0) := by
  rw [k1_part1_eq_skeleton]
  unfold k1_part1_skel
  iintro ⟨#Hmw, H0, H1, HW, ⟨%Y, HP⟩, HS, HX, HO⟩
  iapply (wp_start (F := F) d i (k1_off1_first i)) $$ H0
  iintro H0
  iapply (wp_start (F := F) d i (k1_off1_second i)) $$ H1
  iintro H1
  iapply (wp_copy_owns d _ _ (show 0 < S3136.numel by decide)) $$ [HW HP HS]
  · isplitl [HW]; · iexact HW
    isplitl [HP]; · iexact HP
    iexact HS
  iintro HF
  iapply (wp_wait_owns d _ _ rfl) $$ [HF HO]
  · isplitr; · iexact Hmw
    isplitl [HF]; · iexact HF
    unfold owesSt
    iexact HO
  iintro ⟨⟨HP, HW⟩, HS, HO⟩
  iapply (wp_clear d i arg2 harg2 arg3 harg3 arg4 harg4 arg5 harg5 arg6 harg6 arg7 harg7 arg8 harg8 arg9 harg9 arg10 arg11 v29_r0 v29_r1) $$ HX
  iintro HX
  iapply (Entails.of_eq (wp_pure _ _ _ _ _).symm)
  imodintro
  isplitr; · ipureintro; exact ⟨_, _, rfl⟩
  isplitl [H0 H1 HP HX HO]
  · iapply (tripSt_start d i arg2 q0 q1 A arg8 arg9 arg10.sem arg11.sem arg6 arg7 w 1#32 _ O W)
    isplitl [H0]; · iexact H0
    isplitl [H1]; · iexact H1
    isplitl [HP]; · iexact HP
    isplitl [HX]; · iexact HX
    unfold owesSt
    iexact HO
  isplitl [HW]; · iexact HW
  iexact HS

/-- A tile's histogram at its end. -/
def tileSum (w : ℕ → BitVec 32) (A B : S2x3200000.Idx → BitVec 32) (i : grid1.Coords) (x : ℕ) : BitVec 32 :=
  ∑ n ∈ Finset.range (nkOf i), chunkSum w 1#32 A (widOf i + 32 * n) x + ∑ n ∈ Finset.range (nkOf i), chunkSum w 0#32 B (widOf i + 32 * n) x

/-- The whole run of the tile at `i`: its part of the result holds its histogram, and everything else is handed back. -/
theorem wp_body {qa0 qa1 qb0 qb1 qw : PosShare TreeShare} {A B : S2x3200000.Idx → BitVec 32}
    (hA : ∀ r k, (at2 A r k).toNat < 100000) (hB : ∀ r k, (at2 B r k).toNat < 100000) (w : Vec F S3136 .i32)
    (O : CellTallies nD τ sig (HIx 1)) (W : Waits sig (HIx 1)) :
    iprop(Transfers.MayWaits (thr d i) (none : HIx 1) O
        ∗ idleSt d i arg2 qa0 A arg8 arg10.sem ∗ idleSt d i arg2 qa1 A arg9 arg11.sem
        ∗ owns (thr d i) arg3 qb0 (B : Vec F S2x3200000 .i32) ∗ owns (thr d i) arg3 qb1 (B : Vec F S2x3200000 .i32)
        ∗ owns (thr d i) (pkSrc arg4) qw w ∗ (∃ Y : Vec F S3136 .i32, owns (thr d i) arg7 fullShare Y) ∗ semVal (thr d i, SemLoc.dma v29_r0.sem) 0
        ∗ (∃ X : Vec F S100352 .i32, owns (thr d i) arg6 fullShare X)
        ∗ (∃ Z : Vec F S100352 .i32, owns (thr d i) (outDst i arg5) fullShare Z) ∗ semVal (thr d i, SemLoc.dma v29_r1.sem) 0
        ∗ owesSt d i O W)
      ⊢ tWp d i (cc1__hist_body i arg2 harg2 arg3 harg3 arg4 harg4 arg5 harg5 arg6 harg6 arg7 harg7 arg8 harg8 arg9 harg9 arg10 arg11 v29_r0 v29_r1) fun _ => iprop(
          idleSt d i arg3 qb0 B arg8 arg10.sem ∗ idleSt d i arg3 qb1 B arg9 arg11.sem
        ∗ owns (thr d i) arg2 qa0 (A : Vec F S2x3200000 .i32) ∗ owns (thr d i) arg2 qa1 (A : Vec F S2x3200000 .i32)
        ∗ owns (thr d i) (pkSrc arg4) qw w ∗ (∃ Y : Vec F S3136 .i32, owns (thr d i) arg7 fullShare Y) ∗ semVal (thr d i, SemLoc.dma v29_r0.sem) 0
        ∗ (∃ X : Vec F S100352 .i32, owns (thr d i) arg6 fullShare X)
        ∗ (∃ Z : Vec F S100352 .i32, ⌜∀ x < 100352, at1 (Z : S100352.Idx → BitVec 32) x = tileSum (at1 (w : S3136.Idx → BitVec 32)) A B i x⌝
            ∗ owns (thr d i) (outDst i arg5) fullShare Z) ∗ semVal (thr d i, SemLoc.dma v29_r1.sem) 0
        ∗ owesSt d i O W) := by
  rw [cc1__hist_body_eq_skeleton]
  unfold cc1__hist_body_skel
  iintro ⟨#Hmw, H0, H1, HB0, HB1, HW, HP, HS0, HX, ⟨%Z, HZ⟩, HS1, HO⟩
  iapply (Entails.of_eq (wp_bind _ _ _ _ _ _).symm)
  ihave Hp := (wp_part1 d i arg2 harg2 arg3 harg3 arg4 harg4 arg5 harg5 arg6 harg6 arg7 harg7 arg8 harg8 arg9 harg9 arg10 arg11 v29_r0 v29_r1 (q0 := qa0) (q1 := qa1) (qw := qw) (A := A) w O W) $$ [H0 H1 HW HP HS0 HX HO]
  · isplitr; · iexact Hmw
    isplitl [H0]; · iexact H0
    isplitl [H1]; · iexact H1
    isplitl [HW]; · iexact HW
    isplitl [HP]; · iexact HP
    isplitl [HS0]; · iexact HS0
    isplitl [HX]; · iexact HX
    iexact HO
  iapply (wp_wand _ _ _) $$ Hp
  iintro %r ⟨%hr, HT, HW, HS0⟩
  obtain ⟨a, b, rfl⟩ := hr
  dsimp only
  iapply (wp_loop2 d i arg2 harg2 arg3 harg3 arg4 harg4 arg5 harg5 arg6 harg6 arg7 harg7 arg8 harg8 arg9 harg9 arg10 arg11 v29_r0 v29_r1 hA w (fun _ => 0#32) O W) $$ [HT]
  · isplitr; · iexact Hmw
    iexact HT
  iintro %acc HT
  ihave HT' := (tripSt_end d i arg2 qa0 qa1 A arg8 arg9 arg10.sem arg11.sem arg6 arg7 w 1#32 (fun _ => 0#32) O W) $$ HT
  unfold idleSt
  icases HT' with ⟨⟨HY0, HA0, Hv0⟩, ⟨HY1, HA1, Hv1⟩, HP, HX, HO⟩
  iapply (wp_start (F := F) d i (edges := arg3) (q := qb0) (A := B) (k1_off1_first i)) $$ [HY0 HB0 Hv0]
  · unfold idleSt
    isplitl [HY0]; · iexact HY0
    isplitl [HB0]; · iexact HB0
    iexact Hv0
  iintro H0
  iapply (wp_start (F := F) d i (edges := arg3) (q := qb1) (A := B) (k1_off1_second i)) $$ [HY1 HB1 Hv1]
  · unfold idleSt
    isplitl [HY1]; · iexact HY1
    isplitl [HB1]; · iexact HB1
    iexact Hv1
  iintro H1
  iapply (wp_loop5 d i arg2 harg2 arg3 harg3 arg4 harg4 arg5 harg5 arg6 harg6 arg7 harg7 arg8 harg8 arg9 harg9 arg10 arg11 v29_r0 v29_r1 hB w
    (fun x => 0#32 + ∑ n ∈ Finset.range (nkOf i), chunkSum (at1 (w : S3136.Idx → BitVec 32)) 1#32 A (widOf i + 32 * n) x) O W) $$ [H0 H1 HP HX HO]
  · isplitr; · iexact Hmw
    iapply (tripSt_start d i arg3 qb0 qb1 B arg8 arg9 arg10.sem arg11.sem arg6 arg7 w 0#32 _ O W)
    isplitl [H0]; · iexact H0
    isplitl [H1]; · iexact H1
    isplitl [HP]; · iexact HP
    isplitl [HX]; · iexact HX
    iexact HO
  iintro %acc' HT
  ihave HT' := (tripSt_end d i arg3 qb0 qb1 B arg8 arg9 arg10.sem arg11.sem arg6 arg7 w 0#32 _ O W) $$ HT
  unfold histSt
  icases HT' with ⟨H0, H1, HP, ⟨%X, %hX, HX⟩, HO⟩
  iapply (wp_copy_owns d _ _ (show 0 < S100352.numel by decide)) $$ [HX HZ HS1]
  · isplitl [HX]; · iexact HX
    isplitl [HZ]; · iexact HZ
    iexact HS1
  iintro HF
  iapply (wp_wait_owns d _ _ rfl) $$ [HF HO]
  · isplitr; · iexact Hmw
    isplitl [HF]; · iexact HF
    unfold owesSt
    iexact HO
  iintro ⟨⟨HZ, HX⟩, HS1, HO⟩
  iapply (Entails.of_eq (wp_pure _ _ _ _ _).symm)
  imodintro
  isplitl [H0]; · unfold idleSt; iexact H0
  isplitl [H1]; · unfold idleSt; iexact H1
  isplitl [HA0]; · iexact HA0
  isplitl [HA1]; · iexact HA1
  isplitl [HW]; · iexact HW
  isplitl [HP]; · iexists _; iexact HP
  isplitl [HS0]; · iexact HS0
  isplitl [HX]; · iexists _; iexact HX
  isplitl [HZ]
  · iexists X; isplitr
    swap; · iexact HZ
    ipureintro
    intro x hx
    rw [hX x hx]
    unfold tileSum
    beta_reduce
    rw [BitVec.zero_add]
  isplitl [HS1]; · iexact HS1
  unfold owesSt
  iexact HO

end Bodies

end Cert.Proof.Hist
-- ==== Proof.Tile.lean ====
/-
  The SparseCore call as the launch sees it: what its handshakes carry, a tile's task from what it is handed to what it hands
  back, and the split of a SparseCore's part between its tiles.
-/
module

public import proofs.«01_k».proof.Proof.Body

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What the handshakes carry -/

/-- The tile's place on the grid: its SparseCore and its subcore. -/
def coordsV (c : Fin (grid1.bound 0)) (s : Fin (grid1.bound 1)) : grid1.Coords :=
  fun | 0 => c | 1 => s | ⟨_ + 2, h⟩ => absurd h (Nat.not_lt.2 (Nat.le_add_left _ _))

abbrev aLoc (d : Dev nD) : Loc nD τ sig := (SparseCore.T d).loc main_arg1
abbrev bLoc (d : Dev nD) : Loc nD τ sig := (SparseCore.T d).loc main_arg2
abbrev wLoc (d : Dev nD) : Loc nD τ sig := (SparseCore.T d).loc main_v4
abbrev oLoc (d : Dev nD) : Loc nD τ sig := (SparseCore.T d).loc main_v5

abbrev mA : Memref sig .scVector .hbm S2x3200000 .i32 := Memref.whole main_arg1_scv
abbrev mB : Memref sig .scVector .hbm S2x3200000 .i32 := Memref.whole main_arg2_scv
abbrev mW : Memref sig .scVector .hbm S1x3136 .i32 := Memref.whole main_v4_scv
abbrev mO : Memref sig .scVector .hbm S3211264 .i32 := Memref.whole main_v5_scv

/-- A tile's share of the arrays every tile reads. -/
def tileShare (i : grid1.Coords) : PosShare TreeShare := Transfers.shareTok (Transfers.shareTok fullShare 2 (i 0)) 16 (i 1)

/-- The packed words, as the tiles' copies read them. -/
def pkRead (w : S1x3136.Idx → BitVec 32) : S3136.Idx → BitVec 32 := fun x => (pkSrc mW).view.read (Elt F) (w : Vec F S1x3136 .i32) x

variable (A B : Dev nD → S2x3200000.Idx → BitVec 32) (w : Dev nD → S1x3136.Idx → BitVec 32)

/-- What a tile is handed: its share of the two edge arrays and of the packed words, and its part of the result. -/
def tileIn (d : Dev nD) (i : grid1.Coords) : sProp 𝕄 :=
  iprop(owns (thr d i) mA (tileShare i) (A d : Vec F S2x3200000 .i32) ∗ owns (thr d i) mB (tileShare i) (B d : Vec F S2x3200000 .i32)
    ∗ owns (thr d i) (pkSrc mW) (tileShare i) (pkRead (F := F) (w d) : Vec F S3136 .i32)
    ∗ ∃ Z : Vec F S100352 .i32, owns (thr d i) (outDst i mO) fullShare Z)

/-- A tile's histogram, as its part of the result holds it. -/
def tileVal (d : Dev nD) (i : grid1.Coords) : S100352.Idx → BitVec 32 :=
  fun x => tileSum (at1 (pkRead (F := F) (w d))) (A d) (B d) i (x 0).val

/-- What a tile hands back: its part of the result, at its histogram. -/
def tileOut (d : Dev nD) (i : grid1.Coords) : sProp 𝕄 :=
  owns (thr d i) (outDst i mO) fullShare (tileVal (F := F) A B w d i : Vec F S100352 .i32)

instance tileIn_storable (d : Dev nD) (i : grid1.Coords) : BI.Storable (upEmb : UEmb _ 𝕄) (tileIn (F := F) A B w d i) := by
  unfold tileIn; infer_instance
instance tileOut_storable (d : Dev nD) (i : grid1.Coords) : BI.Storable (upEmb : UEmb _ 𝕄) (tileOut (F := F) A B w d i) := by
  unfold tileOut; infer_instance

/-- The one call: each SparseCore is handed what its tiles are, and hands back what they do. -/
def P : (K (F := F)).Pay (nD := nD) (Val := Elt F) (Name := ℕ) (U := UU) where
  st := fun q d c => match q with | 0 => bigSep Finset.univ fun i : Fin 16 => tileIn A B w d (coordsV c i)
  dn := fun q d c => match q with | 0 => bigSep Finset.univ fun i : Fin 16 => tileOut A B w d (coordsV c i)
  go := fun q d c i => match q with | 0 => tileIn A B w d (coordsV c i)
  td := fun q d c i => match q with | 0 => tileOut A B w d (coordsV c i)
  x := fun _ _ => iprop(emp)

instance P_storable : (P (F := F) A B w).IsStorable where
  st q d c := match q with
    | 0 => by
      have (i : Fin 16) : BI.Storable (upEmb : UEmb _ 𝕄) (tileIn (F := F) A B w d (coordsV c i)) := tileIn_storable A B w d (coordsV c i)
      show BI.Storable (upEmb : UEmb _ 𝕄) (BI.bigSep Finset.univ fun i : Fin 16 => tileIn (F := F) A B w d (coordsV c i))
      exact BI.Storable.bigSep (upEmb : UEmb _ 𝕄) _ _
  dn q d c := match q with
    | 0 => by
      have (i : Fin 16) : BI.Storable (upEmb : UEmb _ 𝕄) (tileOut (F := F) A B w d (coordsV c i)) := tileOut_storable A B w d (coordsV c i)
      show BI.Storable (upEmb : UEmb _ 𝕄) (BI.bigSep Finset.univ fun i : Fin 16 => tileOut (F := F) A B w d (coordsV c i))
      exact BI.Storable.bigSep (upEmb : UEmb _ 𝕄) _ _
  go q d c i := match q with
    | 0 => (inferInstance : BI.Storable (upEmb : UEmb _ 𝕄) (tileIn (F := F) A B w d (coordsV c i)))
  td q d c i := match q with
    | 0 => (inferInstance : BI.Storable (upEmb : UEmb _ 𝕄) (tileOut (F := F) A B w d (coordsV c i)))

/-! ## A tile's own buffers and semaphores -/

section Tile

variable (d : Dev nD) (i : grid1.Coords)

abbrev cell (i : grid1.Coords) (s : DmaSem sig) : GSem nD τ sig := (thr d i, SemLoc.dma s)

theorem scoped_mem (s : DmaSem sig) (h : (SemLoc.dma s : SemLoc sig).isScoped .scVector = true) :
    cell d i s ∈ SparseCore.Cfg.ownCells (thr d i) := (SparseCore.Cfg.mem_ownCells (g := cell d i s)).mpr ⟨rfl, h⟩

theorem cell_ne {s t : DmaSem sig} (h : s ≠ t) : cell d i s ≠ cell d i t :=
  fun e => h (by injection (Prod.mk.inj e).2)

abbrev restCells : Finset (GSem nD τ sig) :=
  ((((SparseCore.Cfg.ownCells (thr d i)).erase (cell d i cc1_scratch4.sem)).erase (cell d i cc1_scratch5.sem)).erase
    (cell d i cc1_scoped0.sem)).erase (cell d i cc1_scoped1.sem)

/-- The four semaphores of the tile's copies are among its own. -/
theorem ownSems0_tile :
    (SparseCore.Cfg.ownSems0 (thr d i) : sProp 𝕄)
      = iprop(semVal (cell d i cc1_scratch4.sem) 0 ∗ semVal (cell d i cc1_scratch5.sem) 0 ∗ semVal (cell d i cc1_scoped0.sem) 0
          ∗ semVal (cell d i cc1_scoped1.sem) 0 ∗ bigSep (restCells d i) fun g => semVal g 0) := by
  have h0 := scoped_mem d i cc1_scratch4.sem (by decide)
  have h1 := scoped_mem d i cc1_scratch5.sem (by decide)
  have h2 := scoped_mem d i cc1_scoped0.sem (by decide)
  have h3 := scoped_mem d i cc1_scoped1.sem (by decide)
  unfold SparseCore.Cfg.ownSems0
  rw [SparseCore.bigSep_erase' h0,
    SparseCore.bigSep_erase' (Finset.mem_erase.mpr ⟨cell_ne d i (by decide), h1⟩),
    SparseCore.bigSep_erase' (Finset.mem_erase.mpr ⟨cell_ne d i (by decide), Finset.mem_erase.mpr ⟨cell_ne d i (by decide), h2⟩⟩),
    SparseCore.bigSep_erase' (Finset.mem_erase.mpr ⟨cell_ne d i (by decide), Finset.mem_erase.mpr ⟨cell_ne d i (by decide),
      Finset.mem_erase.mpr ⟨cell_ne d i (by decide), h3⟩⟩⟩)]

abbrev dref (b : Ref sig .scVector) : DevRef τ sig := (thr d i).2.devRef b

theorem scratch_mem (b : Ref sig .scVector) (h : (dref d i b).owner = .proc (thr d i).2) :
    dref d i b ∈ SparseCore.Cfg.ownRefs (τ := τ) (thr d i).2 := SparseCore.Cfg.mem_ownRefs_of_owner (p := (thr d i).2) (b := dref d i b) h

theorem dref_ne {b c : Ref sig .scVector} (h : b ≠ c) : dref d i b ≠ dref d i c := fun e => h (Proc.devRef_injective _ e)

abbrev restRefs : Finset (DevRef τ sig) :=
  ((((SparseCore.Cfg.ownRefs (τ := τ) (thr d i).2).erase (dref d i cc1_scratch0)).erase (dref d i cc1_scratch1)).erase
    (dref d i cc1_scratch2)).erase (dref d i cc1_scratch3)

/-- The tile's four scratch buffers are among its own. -/
theorem ownBufs_tile :
    (SparseCore.Cfg.ownBufs (thr d i) : sProp 𝕄)
      = iprop((∃ f, (thr d i).loc cc1_scratch0 ↦{fullShare} f) ∗ (∃ f, (thr d i).loc cc1_scratch1 ↦{fullShare} f)
          ∗ (∃ f, (thr d i).loc cc1_scratch2 ↦{fullShare} f) ∗ (∃ f, (thr d i).loc cc1_scratch3 ↦{fullShare} f)
          ∗ bigSep (restRefs d i) fun b => iprop(∃ f, ((d, b) : Loc nD τ sig) ↦{fullShare} f)) := by
  have h0 := scratch_mem d i cc1_scratch0 rfl
  have h1 := scratch_mem d i cc1_scratch1 rfl
  have h2 := scratch_mem d i cc1_scratch2 rfl
  have h3 := scratch_mem d i cc1_scratch3 rfl
  unfold SparseCore.Cfg.ownBufs
  refine (SparseCore.bigSep_erase' h0).trans ?_
  rw [SparseCore.bigSep_erase' (Finset.mem_erase.mpr ⟨dref_ne d i (by decide), h1⟩),
    SparseCore.bigSep_erase' (Finset.mem_erase.mpr ⟨dref_ne d i (by decide), Finset.mem_erase.mpr ⟨dref_ne d i (by decide), h2⟩⟩),
    SparseCore.bigSep_erase' (Finset.mem_erase.mpr ⟨dref_ne d i (by decide), Finset.mem_erase.mpr ⟨dref_ne d i (by decide),
      Finset.mem_erase.mpr ⟨dref_ne d i (by decide), h3⟩⟩⟩)]

/-- What each half of a read share holds. -/
theorem owns_halves {sh : Shape} (mr : Memref sig .scVector .hbm sh .i32) (q : PosShare TreeShare) (X : Vec F sh .i32) :
    (owns (thr d i) mr q X : sProp 𝕄) ⊢ iprop(owns (thr d i) mr q.left X ∗ owns (thr d i) mr q.right X) := by
  unfold owns
  iintro ⟨%f, %hf, H⟩
  ihave H' := (pointsTo_share (PosShare.mem_left_op_right _)).1 $$ H
  icases H' with ⟨H0, H1⟩
  isplitl [H0]
  · iexists f; isplitr; · ipureintro; exact hf
    iexact H0
  · iexists f; isplitr; · ipureintro; exact hf
    iexact H1

/-- The body of the kernel at its launch operands. -/
abbrev tileProg (i : grid1.Coords) : Prog (TpuEff nD τ sig (Elt F) Λ₀ (thr 0 i).2) PUnit :=
  cc1__hist_body i mA (Memref.isWhole_whole _) mB (Memref.isWhole_whole _) mW (Memref.isWhole_whole _) mO (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    cc1_scratch4 cc1_scratch5 cc1_scoped0 cc1_scoped1

/-- Every edge names a node. -/
def EdgesOk (A : Dev nD → S2x3200000.Idx → BitVec 32) : Prop := ∀ d r k, (at2 (A d) r k).toNat < 100000

attribute [local irreducible] cc1__hist_body

/-- A tile's task: from what it is handed and its own buffers and semaphores to what it hands back and those again. -/
theorem tile_body (hA : EdgesOk A) (hB : EdgesOk B) (O : CellTallies nD τ sig (HIx 1)) (W : Waits sig (HIx 1)) (hO : ∀ g, O g none = 0) :
    iprop(levAts (K (F := F)).L (K (F := F)).lev ∗ emp ∗ tileIn (F := F) A B w d i
        ∗ scopedBufs (thr d i) ∗ scopedSems0 (thr d i) ∗ owes (thr d i) O W)
      ⊢ tWp d i (tileProg (F := F) i)
          fun _ => iprop(tileOut (F := F) A B w d i ∗ scopedBufs (thr d i) ∗ scopedSems0 (thr d i)
            ∗ ∃ W', ⌜∀ p ∈ W', p ∈ W ∨ p.2 = none⌝ ∗ owes (thr d i) O W') := by
  rw [(K (F := F)).scopedBufs_V facts d ((i 0).castLE hcore1) ((i 1).castLE hsub1),
    SparseCore.Cfg.scopedSems0_V (Val := Elt F) d ((i 0).castLE hcore1) ((i 1).castLE hsub1), ownSems0_tile, ownBufs_tile]
  unfold tileIn tileOut
  iintro ⟨#Hlv, -, ⟨HA, HB, HW, HZ⟩, ⟨⟨%f0, H0⟩, ⟨%f1, H1⟩, ⟨%f2, H2⟩, ⟨%f3, H3⟩, Hbufs⟩, ⟨Hs0, Hs1, Hs2, Hs3, Hsems⟩, HO⟩
  ihave #Hmw := ((K (F := F)).mayWaits_none (thr := thr d i) hO) $$ Hlv
  ihave HAs := (owns_halves d i mA _ _) $$ HA
  icases HAs with ⟨HA0, HA1⟩
  ihave HBs := (owns_halves d i mB _ _) $$ HB
  icases HBs with ⟨HB0, HB1⟩
  ihave H0' := (Entails.of_eq (owns_whole (thr d i) cc1_scratch0 fullShare f0).symm) $$ H0
  ihave H1' := (Entails.of_eq (owns_whole (thr d i) cc1_scratch1 fullShare f1).symm) $$ H1
  ihave H2' := (Entails.of_eq (owns_whole (thr d i) cc1_scratch2 fullShare f2).symm) $$ H2
  ihave H3' := (Entails.of_eq (owns_whole (thr d i) cc1_scratch3 fullShare f3).symm) $$ H3
  ihave Hwp := (wp_body d i mA (Memref.isWhole_whole _) mB (Memref.isWhole_whole _) mW (Memref.isWhole_whole _) mO (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    cc1_scratch4 cc1_scratch5 cc1_scoped0 cc1_scoped1 (hA d) (hB d) (pkRead (F := F) (w d) : Vec F S3136 .i32) O W)
    $$ [HA0 HA1 HB0 HB1 HW HZ H0' H1' H2' H3' Hs0 Hs1 Hs2 Hs3 HO]
  · isplitr; · iexact Hmw
    unfold idleSt
    isplitl [HA0 H2' Hs0]
    · isplitl [H2']; · iexists _; iexact H2'
      isplitl [HA0]; · iexact HA0
      iexact Hs0
    isplitl [HA1 H3' Hs1]
    · isplitl [H3']; · iexists _; iexact H3'
      isplitl [HA1]; · iexact HA1
      iexact Hs1
    isplitl [HB0]; · iexact HB0
    isplitl [HB1]; · iexact HB1
    isplitl [HW]; · iexact HW
    isplitl [H1']; · iexists _; iexact H1'
    isplitl [Hs2]; · iexact Hs2
    isplitl [H0']; · iexists _; iexact H0'
    isplitl [HZ]; · iexact HZ
    isplitl [Hs3]; · iexact Hs3
    unfold owesSt
    iexists W
    isplitr; · ipureintro; exact fun p hp => Or.inl hp
    iexact HO
  iapply (wp_wand _ _ _) $$ Hwp
  unfold idleSt owesSt
  iintro %_ ⟨⟨⟨%Y2, H2⟩, -, Hs0⟩, ⟨⟨%Y3, H3⟩, -, Hs1⟩, -, -, -, ⟨%Y1, H1⟩, Hs2, ⟨%Y0, H0⟩, ⟨%Z, %hZ, HZ⟩, Hs3, HO⟩
  obtain rfl : Z = (tileVal (F := F) A B w d i : Vec F S100352 .i32) := by
    funext x
    have hx : (x 0).val < 100352 := (x 0).isLt
    exact (at1_of (Z : S100352.Idx → BitVec 32) x _ rfl).trans (hZ _ hx)
  isplitl [HZ]; · iexact HZ
  isplitl [H0 H1 H2 H3 Hbufs]
  · isplitl [H0]; · iexists Y0; iapply (Entails.of_eq (owns_whole (thr d i) cc1_scratch0 fullShare Y0)); iexact H0
    isplitl [H1]; · iexists Y1; iapply (Entails.of_eq (owns_whole (thr d i) cc1_scratch1 fullShare Y1)); iexact H1
    isplitl [H2]; · iexists Y2; iapply (Entails.of_eq (owns_whole (thr d i) cc1_scratch2 fullShare Y2)); iexact H2
    isplitl [H3]; · iexists Y3; iapply (Entails.of_eq (owns_whole (thr d i) cc1_scratch3 fullShare Y3)); iexact H3
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexact HO

end Tile

/-! ## The launch theorem's obligations -/

theorem defs₀_tile (c : Fin τ.nSC) (s : Fin τ.nSub) :
    defs₀ (F := F) (.scVector c s) 1 () = SparseCore.onTile hcore1 hsub1 (fun c s => tileProg (F := F) (coordsV c s)) ⟨⟩ c s := rfl

theorem weaken_waits {t : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes t O W')
      ⊢ iprop(X ∗ Y ∗ Z ∗ ∃ W', ⌜∀ p ∈ W', p ∈ W ∨ p.2 = none ∨ p.2 = some q⌝ ∗ owes t O W') := by
  iintro ⟨HX, HY, HZ, %W', %hW', HO⟩
  isplitl [HX]; · iexact HX
  isplitl [HY]; · iexact HY
  isplitl [HZ]; · iexact HZ
  iexists W'; isplitr
  · ipureintro; exact fun p hp => (hW' p hp).imp_right Or.inl
  · iexact HO

theorem tileObl (hA : EdgesOk A) (hB : EdgesOk B) : (K (F := F)).TileObl (D (F := F)) 𝒱p (P A B w) v₀ 0 := by
  intro d c i O W hO _ _
  simp only [show (P (F := F) A B w).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_tile]; simp only [SparseCore.onTile, hc, and_self, ↓reduceDIte]
  exact (tile_body A B w d (coordsV ⟨_, hc.1⟩ ⟨_, hc.2⟩) hA hB O W hO).trans (wp_mono frame _ _ fun _ => weaken_waits)

theorem vecSplit : (K (F := F)).VecSplit' (P A B w) 0 := by
  intro d c
  show (bigSep Finset.univ fun i : Fin 16 => tileIn (F := F) A B w d (coordsV c i)) ⊢ |={Set.univ}=> iprop(
      (bigSep Finset.univ fun i : Fin 16 => tileIn (F := F) A B w d (coordsV c i))
      ∗ ((bigSep Finset.univ fun i : Fin 16 => tileOut (F := F) A B w d (coordsV c i))
          -∗ bigSep Finset.univ fun i : Fin 16 => tileOut (F := F) A B w d (coordsV c i)))
  iintro H; imodintro
  isplitl [H]; · iexact H
  iintro H; iexact H

end Cert.Proof.Hist
-- ==== Proof.TcBody.lean ====
/-
  The two TensorCore kernels' bodies: the packing of the nodes' bits into words, and the sum of the tiles' histograms with the
  minimum over the clauses.
-/
module

public import proofs.«01_k».proof.Proof.Tile
public import proofs.«01_k».proof.Proof.Gen.KernelIdeal.Launch
public import proofs.«01_k».proof.Proof.Gen.KernelIdeal.Points

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (Dat Cfg Window BodyObligation cellOf)

/-! ## Loads and stores of the TensorCore -/

section Rules

variable {d : Dev nD}

/-- The weakest precondition of a TensorCore body's fragment. -/
abbrev tcWp (d : Dev nD) {α : Type} (p : Prog (TpuEff nD τ sig (Elt F) Λ₀ .tc) α) (Q : α → sProp (MT nD τ sig (HIx 1) (Elt F) ℕ UU ℕ)) :
    sProp (MT nD τ sig (HIx 1) (Elt F) ℕ UU ℕ) :=
  wp frame (wpE (defs₀ (F := F)) 𝒱₀ (SparseCore.T d) none) Set.univ p Q

variable {α : Type} {Q : α → sProp (MT nD τ sig (HIx 1) (Elt F) ℕ UU ℕ)}

/-- A load reads the memref's contents at the load's rectangle. -/
theorem wp_tcLoad {cs : CoreSpace} {sh : Shape} {e : EltTy} {mr : Memref sig .tc cs sh e} {r : Rect sh}
    {hl : mr.view.LoadsAt r.toLoadRect} {q : PosShare TreeShare} {X : sh.Idx → Elt F e} {Z : r.shape.Idx → Elt F e}
    (hZ : ∀ x, Z x = X (r.emb x)) {k : (r.shape.Idx → Elt F e) → Prog (TpuEff nD τ sig (Elt F) Λ₀ .tc) α} :
    (owns (SparseCore.T d) mr q X : sProp 𝕄)
      ⊢ iprop((owns (SparseCore.T d) mr q X -∗ tcWp d (k Z) Q)
          -∗ tcWp d (Prog.lift (.load mr r.toLoadRect hl) >>= k) Q) := by
  obtain rfl : Z = fun x => X (r.emb x) := funext hZ
  unfold owns
  iintro ⟨%f, %hf, H⟩ Hk
  iapply (wp_load 𝒱₀ (SparseCore.T d) none Set.univ (m := mr) (S := mr.view.set) (f := f) (View.setOn_subset_set _ _)) $$ H
  iintro H
  subst hf
  iapply Hk
  iexists f; isplitr; · ipureintro; rfl
  iexact H

/-- A store of a rectangle writes it over the contents. -/
theorem wp_tcStore {cs : CoreSpace} {sh : Shape} {e : EltTy} {mr : Memref sig .tc cs sh e} {r : Rect sh}
    {w : r.shape.Idx → Elt F e} {hx : (mr.access r).Stores Finset.univ} {hm : Finset.univ = (Finset.univ : Finset r.shape.Idx) ∨ ∀ a, r.stride a = 1}
    {X : sh.Idx → Elt F e} {k : PUnit → Prog (TpuEff nD τ sig (Elt F) Λ₀ .tc) α} :
    (owns (SparseCore.T d) mr fullShare X : sProp 𝕄)
      ⊢ iprop((owns (SparseCore.T d) mr fullShare (r.overlay X w) -∗ tcWp d (k ⟨⟩) Q)
          -∗ tcWp d (Prog.lift (.store mr r w Finset.univ hx hm) >>= k) Q) := by
  unfold owns
  iintro ⟨%f, %hf, H⟩ Hk
  subst hf
  iapply (wp_store 𝒱₀ (SparseCore.T d) none Set.univ (m := mr) (r := r) (Mk := Finset.univ) (f := f)
    (View.set_slice_subset _ _)) $$ H
  iintro H
  iapply Hk
  iexists _; isplitr
  swap; · iexact H
  ipureintro
  funext y
  by_cases hy : y ∈ r.set
  · obtain ⟨x, rfl⟩ := r.exists_idx_of_mem hy
    change _ = r.overlay _ w (r.emb x)
    rw [Rect.overlay_emb]
    exact View.read_slice_write_emb r _ w (Finset.mem_univ x)
  · rw [Rect.overlay_of_not_mem _ _ _ hy]
    exact View.read_slice_write_of_not_mem r _ _ _ (by rw [Rect.map_emb_univ]; exact hy)

end Rules

/-! ## The packing -/

theorem emb_full {s : Shape} {off : Fin s.rank → ℕ} {h : ∀ a, off a + s.size a ≤ s.size a} (h0 : ∀ a, off a = 0)
    (x : s.Idx) : (Rect.unit off s.size h).emb x = x := by
  funext a; apply Fin.ext
  rw [Rect.emb_apply]
  show off a + 1 * (x a).val = (x a).val
  rw [h0]; omega

theorem overlay_full {s : Shape} {α : Type} {off : Fin s.rank → ℕ} {h : ∀ a, off a + s.size a ≤ s.size a} (h0 : ∀ a, off a = 0)
    (X w : s.Idx → α) : (Rect.unit off s.size h).overlay X w = w := by
  funext x
  have e := Rect.overlay_emb (Rect.unit off s.size h) X w x
  rw [emb_full h0] at e
  exact e

/-- The packing body leaves the packed words of what it finds. -/
theorem pack_body (d : Dev nD) (m0 : Memref sig .tc .vmem S32x3136 .f32) (h0 : m0.IsWhole) (m1 : Memref sig .tc .vmem S1x3136 .i32)
    (h1 : m1.IsWhole) (X : S32x3136.Idx → Elt F .f32) (Y : S1x3136.Idx → Elt F .i32) (Q : PUnit → sProp (MT nD τ sig (HIx 1) (Elt F) ℕ UU ℕ)) :
    iprop(owns (SparseCore.T d) m0 fullShare X ∗ owns (SparseCore.T d) m1 fullShare Y
      ∗ (owns (SparseCore.T d) m0 fullShare X ∗ owns (SparseCore.T d) m1 fullShare (k0_pay1 X : S1x3136.Idx → Elt F .i32) -∗ Q ⟨⟩))
      ⊢ tcWp d (cc0__pack_body m0 h0 m1 h1) Q := by
  rw [cc0__pack_body_eq_skeleton]
  unfold cc0__pack_body_skel
  iintro ⟨H0, H1, Hk⟩
  iapply (wp_tcLoad (Z := X) (fun x => congrArg X (emb_full (by decide) x).symm)) $$ H0; iintro H0
  iapply (wp_tcLoad (Z := Y) (fun x => congrArg Y (emb_full (by decide) x).symm)) $$ H1; iintro H1
  iapply wp_tcStore $$ H1; iintro H1
  iapply (Entails.of_eq (wp_pure _ _ _ _ _).symm); imodintro
  iapply Hk
  isplitl [H0]; · iexact H0
  rw [overlay_full (s := S1x3136) (by decide)]
  iexact H1

/-! ## The sum and the minimum -/

/-- One tile's histogram in the gathered output. -/
def row (Y : S3211264.Idx → BitVec 32) (k : ℕ) : S100352.Idx → BitVec 32 := fun x => at1 Y (100352 * k + (x 0).val)

theorem row_load (Y : S3211264.Idx → BitVec 32) (k : ℕ) {off : Fin 1 → ℕ} (h : ∀ a, off a + S100352.size a ≤ S3211264.size a)
    (h0 : off 0 = 100352 * k) (x : S100352.Idx) : row Y k x = Y ((Rect.unit (s := S3211264) off S100352.size h).emb x) := by
  refine (at1_of Y _ _ ?_).symm
  rw [Rect.emb_apply]
  show off 0 + 1 * (x 0).val = _
  rw [h0]; omega

/-- What the reduction makes of the gathered histograms. -/
def redVal (Y : S3211264.Idx → BitVec 32) : F .f32 :=
  k2_pay1 (k2_pay3 (F := F) (k2_pay2 (F := F) (row Y 0) (row Y 1) (row Y 2) (row Y 3) (row Y 4) (row Y 5) (row Y 6) (row Y 7) (row Y 8) (row Y 9) (row Y 10) (row Y 11) (row Y 12) (row Y 13) (row Y 14))
    (row Y 15) (row Y 16) (row Y 17) (row Y 18) (row Y 19) (row Y 20) (row Y 21) (row Y 22) (row Y 23) (row Y 24) (row Y 25) (row Y 26) (row Y 27) (row Y 28) (row Y 29)) (row Y 30) (row Y 31)

theorem reduce_body (d : Dev nD) (m0 : Memref sig .tc .vmem S3211264 .i32) (h0 : m0.IsWhole) (m1 : Memref sig .tc .smem S1x1 .f32)
    (h1 : m1.IsWhole) (Y : S3211264.Idx → BitVec 32) (Z : S1x1.Idx → Elt F .f32) (Q : PUnit → sProp (MT nD τ sig (HIx 1) (Elt F) ℕ UU ℕ)) :
    iprop(owns (SparseCore.T d) m0 fullShare (Y : S3211264.Idx → Elt F .i32) ∗ owns (SparseCore.T d) m1 fullShare Z
      ∗ (owns (SparseCore.T d) m0 fullShare (Y : S3211264.Idx → Elt F .i32) ∗ owns (SparseCore.T d) m1 fullShare ((fun _ => redVal Y) : S1x1.Idx → Elt F .f32) -∗ Q ⟨⟩))
      ⊢ tcWp d (cc2__reduce_body m0 h0 m1 h1) Q := by
  rw [cc2__reduce_body_eq_skeleton]
  unfold cc2__reduce_body_skel
  rw [k2_part1_eq_skeleton, k2_part2_eq_skeleton]
  unfold redVal
  iintro ⟨HY, HZ, Hk⟩
  iapply (Entails.of_eq (wp_bind _ _ _ _ _ _).symm)
  unfold k2_part1_skel
  iapply (wp_tcLoad (Z := row Y 0) (row_load Y 0 _ (by decide))) $$ HY; iintro HY
  iapply (wp_tcLoad (Z := row Y 1) (row_load Y 1 _ (by decide))) $$ HY; iintro HY
  iapply (wp_tcLoad (Z := row Y 2) (row_load Y 2 _ (by decide))) $$ HY; iintro HY
  iapply (wp_tcLoad (Z := row Y 3) (row_load Y 3 _ (by decide))) $$ HY; iintro HY
  iapply (wp_tcLoad (Z := row Y 4) (row_load Y 4 _ (by decide))) $$ HY; iintro HY
  iapply (wp_tcLoad (Z := row Y 5) (row_load Y 5 _ (by decide))) $$ HY; iintro HY
  iapply (wp_tcLoad (Z := row Y 6) (row_load Y 6 _ (by decide))) $$ HY; iintro HY
  iapply (wp_tcLoad (Z := row Y 7) (row_load Y 7 _ (by decide))) $$ HY; iintro HY
  iapply (wp_tcLoad (Z := row Y 8) (row_load Y 8 _ (by decide))) $$ HY; iintro HY
  iapply (wp_tcLoad (Z := row Y 9) (row_load Y 9 _ (by decide))) $$ HY; iintro HY
  iapply (wp_tcLoad (Z := row Y 10) (row_load Y 10 _ (by decide))) $$ HY; iintro HY
  iapply (wp_tcLoad (Z := row Y 11) (row_load Y 11 _ (by decide))) $$ HY; iintro HY
  iapply (wp_tcLoad (Z := row Y 12) (row_load Y 12 _ (by decide))) $$ HY; iintro HY
  iapply (wp_tcLoad (Z := row Y 13) (row_load Y 13 _ (by decide))) $$ HY; iintro HY
  iapply (wp_tcLoad (Z := row Y 14) (row_load Y 14 _ (by decide))) $$ HY; iintro HY
  iapply (Entails.of_eq (wp_pure _ _ _ _ _).symm); imodintro
  iapply (Entails.of_eq (wp_bind _ _ _ _ _ _).symm)
  unfold k2_part2_skel
  iapply (wp_tcLoad (Z := row Y 15) (row_load Y 15 _ (by decide))) $$ HY; iintro HY
  iapply (wp_tcLoad (Z := row Y 16) (row_load Y 16 _ (by decide))) $$ HY; iintro HY
  iapply (wp_tcLoad (Z := row Y 17) (row_load Y 17 _ (by decide))) $$ HY; iintro HY
  iapply (wp_tcLoad (Z := row Y 18) (row_load Y 18 _ (by decide))) $$ HY; iintro HY
  iapply (wp_tcLoad (Z := row Y 19) (row_load Y 19 _ (by decide))) $$ HY; iintro HY
  iapply (wp_tcLoad (Z := row Y 20) (row_load Y 20 _ (by decide))) $$ HY; iintro HY
  iapply (wp_tcLoad (Z := row Y 21) (row_load Y 21 _ (by decide))) $$ HY; iintro HY
  iapply (wp_tcLoad (Z := row Y 22) (row_load Y 22 _ (by decide))) $$ HY; iintro HY
  iapply (wp_tcLoad (Z := row Y 23) (row_load Y 23 _ (by decide))) $$ HY; iintro HY
  iapply (wp_tcLoad (Z := row Y 24) (row_load Y 24 _ (by decide))) $$ HY; iintro HY
  iapply (wp_tcLoad (Z := row Y 25) (row_load Y 25 _ (by decide))) $$ HY; iintro HY
  iapply (wp_tcLoad (Z := row Y 26) (row_load Y 26 _ (by decide))) $$ HY; iintro HY
  iapply (wp_tcLoad (Z := row Y 27) (row_load Y 27 _ (by decide))) $$ HY; iintro HY
  iapply (wp_tcLoad (Z := row Y 28) (row_load Y 28 _ (by decide))) $$ HY; iintro HY
  iapply (wp_tcLoad (Z := row Y 29) (row_load Y 29 _ (by decide))) $$ HY; iintro HY
  iapply (Entails.of_eq (wp_pure _ _ _ _ _).symm); imodintro
  iapply (wp_tcLoad (Z := row Y 30) (row_load Y 30 _ (by decide))) $$ HY; iintro HY
  iapply (wp_tcLoad (Z := row Y 31) (row_load Y 31 _ (by decide))) $$ HY; iintro HY
  unfold smemLoad smemLoadElt
  iapply (wp_tcLoad (Z := Z) (fun x => congrArg Z (emb_full (by decide) x).symm)) $$ HZ; iintro HZ
  iapply wp_tcStore $$ HZ; iintro HZ
  iapply (Entails.of_eq (wp_pure _ _ _ _ _).symm); imodintro
  iapply Hk
  isplitl [HY]; · iexact HY
  rw [overlay_full (s := S1x1) (by decide)]
  iexact HZ

end Cert.Proof.Hist
-- ==== Proof.TcRegion.lean ====
/-
  The two TensorCore calls as regions of `main`: each entered while the TensorCore still owes what it owes before a number of
  SparseCore calls, with its recorded waits bounded as the launch's state bounds them.
-/
module

public import proofs.«01_k».proof.Proof.TcBody
public import Idealize.ShloMosaic.Lib.Pipeline.RegionArrays

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (Dat Cfg Window BodyObligation cellOf)

/-- The pairs the TensorCore's waits may have recorded before call `n`. -/
def waitsBelow (d : Dev nD) (n : ℕ) : Set (SemLoc sig × HIx 1) := {p | (K (F := F)).lev (SparseCore.T d, p.1) p.2 ≤ 8 * n}

/-- What the TensorCore owes before call `n`, its recorded pairs bounded. -/
def OW (n : ℕ) (d : Dev nD) : sProp (MT nD τ sig (HIx 1) (Elt F) ℕ UU ℕ) :=
  iprop(∃ W : Waits sig (HIx 1), ⌜(K (F := F)).WBelow (SparseCore.T d) W (8 * n)⌝ ∗ owes (SparseCore.T d) ((K (F := F)).Otc d n) W)

/-! ## The packing call -/

/-- The region's proof data, from contents of its two arrays. -/
def dat0 (X : Dev nD → S32x3136.Idx → Elt F .f32) (Y : Dev nD → S1x3136.Idx → Elt F .i32) (d : Dev nD) :
    Dat τ (Elt F) (HIx 1) ℕ UU ℕ cfg0 d where
  A w := match w with
    | ⟨0, _⟩ => X d
    | ⟨1, _⟩ => Y d
  after w _ := match w with
    | ⟨0, _⟩ => X d
    | ⟨1, _⟩ => (k0_pay1 (X d) : S1x3136.Idx → Elt F .i32)
  Φ _ := Pipeline.scopedRest (Ix := HIx 1) (Name := ℕ) (U := UU) (Lvl := ℕ) (Val := Elt F) spec0 d
  q _ := fullShare
  owed _ := (K (F := F)).Otc d 0
  recorded _ := waitsBelow (F := F) d 0

theorem read0_0 (f : S32x3136.Idx → Elt F .f32) : (((cfg0.win 0).blk t0_0).view.read (Elt F) f : S32x3136.Idx → Elt F .f32) = f := by
  funext x
  refine congrArg f (funext fun a => Fin.ext ?_)
  have h0 : ∀ a, win0_0.index t0_0 a = 0 := fun _ => rfl
  show win0_0.index t0_0 a * win0_0.size a + 1 * (x a).val = (x a).val
  rw [h0]; omega

theorem read0_1 (f : S1x3136.Idx → Elt F .i32) : (((cfg0.win 1).blk t0_0).view.read (Elt F) f : S1x3136.Idx → Elt F .i32) = f := by
  funext x
  refine congrArg f (funext fun a => Fin.ext ?_)
  have h0 : ∀ a, win0_1.index t0_0 a = 0 := fun _ => rfl
  show win0_1.index t0_0 a * win0_1.size a + 1 * (x a).val = (x a).val
  rw [h0]; omega

/-- The region leaves its result's array at what the body left. -/
theorem arrAt0_1 (X : Dev nD → S32x3136.Idx → Elt F .f32) (Y : Dev nD → S1x3136.Idx → Elt F .i32) (d : Dev nD) :
    ((dat0 X Y d).arrAt 1 cfg0.N : S1x3136.Idx → Elt F .i32) = (k0_pay1 (X d) : S1x3136.Idx → Elt F .i32) := by
  have hN : cfg0.N = 1 := N_0
  have h1 : ((dat0 X Y d).arrAt 1 cfg0.N : S1x3136.Idx → Elt F .i32)
      = ((cfg0.win 1).blk t0_0).view.write (Elt F) (Y d) ((dat0 X Y d).flushed 1 t0_0) Finset.univ := by
    rw [hN]; rfl
  rw [h1, ← read0_1 (((cfg0.win 1).blk t0_0).view.write (Elt F) (Y d) ((dat0 X Y d).flushed 1 t0_0) Finset.univ)]
  refine (View.read_write_univ _ _).trans ?_
  generalize hR : (k0_pay1 (X d) : S1x3136.Idx → Elt F .i32) = R
  have ha : (dat0 X Y d).after 1 t0_0 = R := by rw [← hR]; dsimp only [dat0]
  funext x
  show (dat0 X Y d).after 1 t0_0 _ = _
  rw [ha]

theorem before0 (X : Dev nD → S32x3136.Idx → Elt F .f32) (Y : Dev nD → S1x3136.Idx → Elt F .i32) (d : Dev nD)
    (e : (cfg0.win 0).block.Idx → Elt F (cfg0.win 0).elt) : (dat0 X Y d).before 0 t0_0 e = X d := by
  unfold Dat.before; rw [if_pos (by decide)]
  exact read0_0 (X d)

set_option backward.isDefEq.respectTransparency.types false in
theorem obligation0 (X : Dev nD → S32x3136.Idx → Elt F .f32) (Y : Dev nD → S1x3136.Idx → Elt F .i32) (d : Dev nD) :
    BodyObligation (dat0 X Y d) (defs₀ (F := F)) 𝒱₀ none Set.univ := fun t => by
  obtain rfl := fin_N0 t
  rw [bigSep_W0, bigSep_W0]
  rw [show (dat0 X Y d).Φ t0_0.succ = (dat0 X Y d).Φ t0_0.castSucc from rfl,
    show (dat0 X Y d).owesAt none t0_0.succ = (dat0 X Y d).owesAt none t0_0.castSucc from rfl]
  iintro ⟨HΦ, Howes, ⟨%d0, H0⟩, ⟨%d1, H1⟩⟩
  rw [before0]
  iapply (pack_body d _ (hstage0_0 0) _ (hstage0_1 0) (X d) ((dat0 X Y d).before 1 t0_0 d1) _)
  isplitl [H0]; · iexact H0
  isplitl [H1]; · iexact H1
  iintro ⟨H0, H1⟩
  isplitl [HΦ]; · iexact HΦ
  isplitl [Howes]; · iexact Howes
  isplitl [H0]; · iexact H0
  dsimp only [dat0]
  iexact H1

/-! ## The reducing call -/

/-- The region's proof data, from contents of its two arrays. -/
def dat2 (X : Dev nD → S3211264.Idx → Elt F .i32) (Y : Dev nD → S1x1.Idx → Elt F .f32) (d : Dev nD) :
    Dat τ (Elt F) (HIx 1) ℕ UU ℕ cfg2 d where
  A w := match w with
    | ⟨0, _⟩ => X d
    | ⟨1, _⟩ => Y d
  after w _ := match w with
    | ⟨0, _⟩ => X d
    | ⟨1, _⟩ => ((fun _ => redVal (X d)) : S1x1.Idx → Elt F .f32)
  Φ _ := Pipeline.scopedRest (Ix := HIx 1) (Name := ℕ) (U := UU) (Lvl := ℕ) (Val := Elt F) spec2 d
  q _ := fullShare
  owed _ := (K (F := F)).Otc d 1
  recorded _ := waitsBelow (F := F) d 1

theorem read2_0 (f : S3211264.Idx → Elt F .i32) : (((cfg2.win 0).blk t2_0).view.read (Elt F) f : S3211264.Idx → Elt F .i32) = f := by
  funext x
  refine congrArg f (funext fun a => Fin.ext ?_)
  have h0 : ∀ a, win2_0.index t2_0 a = 0 := fun _ => rfl
  show win2_0.index t2_0 a * win2_0.size a + 1 * (x a).val = (x a).val
  rw [h0]; omega

theorem read2_1 (f : S1x1.Idx → Elt F .f32) : (((cfg2.win 1).blk t2_0).view.read (Elt F) f : S1x1.Idx → Elt F .f32) = f := by
  funext x
  refine congrArg f (funext fun a => Fin.ext ?_)
  have h0 : ∀ a, win2_1.index t2_0 a = 0 := fun _ => rfl
  show win2_1.index t2_0 a * win2_1.size a + 1 * (x a).val = (x a).val
  rw [h0]; omega

/-- The region leaves its result's array at what the body left. -/
theorem arrAt2_1 (X : Dev nD → S3211264.Idx → Elt F .i32) (Y : Dev nD → S1x1.Idx → Elt F .f32) (d : Dev nD) :
    ((dat2 X Y d).arrAt 1 cfg2.N : S1x1.Idx → Elt F .f32) = ((fun _ => redVal (X d)) : S1x1.Idx → Elt F .f32) := by
  have hN : cfg2.N = 1 := N_2
  have h1 : ((dat2 X Y d).arrAt 1 cfg2.N : S1x1.Idx → Elt F .f32)
      = ((cfg2.win 1).blk t2_0).view.write (Elt F) (Y d) ((dat2 X Y d).flushed 1 t2_0) Finset.univ := by
    rw [hN]; rfl
  rw [h1, ← read2_1 (((cfg2.win 1).blk t2_0).view.write (Elt F) (Y d) ((dat2 X Y d).flushed 1 t2_0) Finset.univ)]
  refine (View.read_write_univ _ _).trans ?_
  generalize hR : ((fun _ => redVal (X d)) : S1x1.Idx → Elt F .f32) = R
  have ha : (dat2 X Y d).after 1 t2_0 = R := by rw [← hR]; dsimp only [dat2]
  funext x
  show (dat2 X Y d).after 1 t2_0 _ = _
  rw [ha]

theorem before2 (X : Dev nD → S3211264.Idx → Elt F .i32) (Y : Dev nD → S1x1.Idx → Elt F .f32) (d : Dev nD)
    (e : (cfg2.win 0).block.Idx → Elt F (cfg2.win 0).elt) : (dat2 X Y d).before 0 t2_0 e = X d := by
  unfold Dat.before; rw [if_pos (by decide)]
  exact read2_0 (X d)

set_option backward.isDefEq.respectTransparency.types false in
theorem obligation2 (X : Dev nD → S3211264.Idx → Elt F .i32) (Y : Dev nD → S1x1.Idx → Elt F .f32) (d : Dev nD) :
    BodyObligation (dat2 X Y d) (defs₀ (F := F)) 𝒱₀ none Set.univ := fun t => by
  obtain rfl := fin_N2 t
  rw [bigSep_W2, bigSep_W2]
  rw [show (dat2 X Y d).Φ t2_0.succ = (dat2 X Y d).Φ t2_0.castSucc from rfl,
    show (dat2 X Y d).owesAt none t2_0.succ = (dat2 X Y d).owesAt none t2_0.castSucc from rfl]
  iintro ⟨HΦ, Howes, ⟨%d0, H0⟩, ⟨%d1, H1⟩⟩
  rw [before2]
  iapply (reduce_body d _ (hstage2_0 0) _ (hstage2_1 0) (X d) ((dat2 X Y d).before 1 t2_0 d1) _)
  isplitl [H0]; · iexact H0
  isplitl [H1]; · iexact H1
  iintro ⟨H0, H1⟩
  isplitl [HΦ]; · iexact HΦ
  isplitl [Howes]; · iexact Howes
  isplitl [H0]; · iexact H0
  dsimp only [dat2]
  iexact H1

/-! ## The regions -/

/-- Neither pipeline prefetches a table. -/
abbrev adm : (p : Fin 2) → (pcfgs (F := F) p).Adm := fun p => (cfgs p).toPCfg_adm

variable (X3 : Dev nD → S32x3136.Idx → Elt F .f32) (Y4 : Dev nD → S1x3136.Idx → Elt F .i32)
  (X5 : Dev nD → S3211264.Idx → Elt F .i32) (Y6 : Dev nD → S1x1.Idx → Elt F .f32)

/-- Both regions' proof data. -/
def pdats : (p : Fin 2) → (d : Dev nD) → Dat τ (Elt F) (HIx 1) ℕ UU ℕ (Pipeline.pin (pcfgs (F := F)) adm p) d
  | ⟨0, _⟩ => fun d => dat0 X3 Y4 d
  | ⟨1, _⟩ => fun d => dat2 X5 Y6 d

theorem cellsWaits_below (pd : (p : Fin 2) → (d : Dev nD) → Dat τ (Elt F) (HIx 1) ℕ UU ℕ (Pipeline.pin (pcfgs (F := F)) adm p) d)
    (p : Fin 2) (d : Dev nD) (n : ℕ) (howed : ∀ t, (pd p d).owed t = (K (F := F)).Otc d n) :
    (levAts (K (F := F)).L (K (F := F)).lev : sProp 𝕄) ⊢ Pipeline.cellsWaits (Pipeline.pin (pcfgs (F := F)) adm) pd none p d :=
  Pipeline.cellsWaits_of_cut (Pipeline.pin (pcfgs (F := F)) adm) pd none p d 0 ((K (F := F)).Otc d n) howed
    (fun _ _ => Finset.mem_univ _) (fun _ _ => le_rfl)
    (fun g i h => ⟨Finset.mem_univ _, by have := (K (F := F)).lev_of_Otc_pos h; omega⟩)

theorem OW_entry {cfg : Cfg sig Λ₀} {d : Dev nD} (dat : Dat τ (Elt F) (HIx 1) ℕ UU ℕ cfg d) (n : ℕ) (t : Fin (cfg.N + 1))
    (ho : dat.owed t = (K (F := F)).Otc d n) (hr : dat.recorded t = waitsBelow (F := F) d n) :
    (OW (F := F) n d : sProp 𝕄) ⊢ dat.owesAt none t := by
  unfold OW Pipeline.Dat.owesAt Pipeline.owesWithin Pipeline.Dat.bound
  rw [ho, hr]
  iintro ⟨%W, %hW, HO⟩
  iexists W; isplitr
  · ipureintro; exact fun p hp => Or.inl (hW p hp)
  iexact HO

theorem OW_exit {cfg : Cfg sig Λ₀} {d : Dev nD} (dat : Dat τ (Elt F) (HIx 1) ℕ UU ℕ cfg d) (n : ℕ) (t : Fin (cfg.N + 1))
    (ho : dat.owed t = (K (F := F)).Otc d n) (hr : dat.recorded t = waitsBelow (F := F) d n) :
    dat.owesAt none t ⊢ (OW (F := F) n d : sProp 𝕄) := by
  unfold OW Pipeline.Dat.owesAt Pipeline.owesWithin Pipeline.Dat.bound
  rw [ho, hr]
  iintro ⟨%W, %hW, HO⟩
  iexists W; isplitr
  · ipureintro
    intro p hp
    rcases hW hp with h | ⟨w, s, rfl⟩
    · exact h
    · exact Nat.zero_le _
  iexact HO

set_option backward.isDefEq.respectTransparency.types false in
/-- The region of pipeline 0: from its two arrays and what the TensorCore owes, to the result's array written. -/
def reg0 : Pipeline.RegionSeg (pcfgs (F := F)) adm (pdats X3 Y4 X5 Y6) none (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (obligation0 X3 Y4 c).loose
  hwaits c := cellsWaits_below (pdats X3 Y4 X5 Y6) 0 c 0 (fun _ => rfl)
  pre c := iprop((pdats X3 Y4 X5 Y6 0 c).arrays ((pdats X3 Y4 X5 Y6 0 c).arrAt · 0) ∗ OW (F := F) 0 c)
  post c := iprop((pdats X3 Y4 X5 Y6 0 c).arrays ((pdats X3 Y4 X5 Y6 0 c).arrAt · (cfg0).N) ∗ OW (F := F) 0 c)
  X _ := BI.emp
  Y _ := BI.emp
  Z _ := BI.emp
  hentry c := by
    rw [Pipeline.ownSems0_none]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (OW_entry (F := F) (pdats X3 Y4 X5 Y6 0 c) 0 0 rfl rfl) $$ HO
    isplitr <;> iempintro
  hin c := by
    rw [show (pdats X3 Y4 X5 Y6 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats X3 Y4 X5 Y6 0 c).Φ (Fin.last _)
      = Pipeline.scopedRest (Ix := HIx 1) (Name := ℕ) (U := UU) (Lvl := ℕ) (Val := Elt F) spec0 c from rfl]
    iintro Hr
    isplitr; · iempintro
    isplitr; · iempintro
    iexact Hr
  hexit c := by
    iintro ⟨Ha, HO, -, -⟩
    imodintro
    isplitl [Ha]; · iexact Ha
    iapply (OW_exit (F := F) (pdats X3 Y4 X5 Y6 0 c) 0 (Fin.last _) rfl rfl) $$ HO

/-- What the region is entered from and what it leaves, as its two arrays. -/
theorem reg0_pre (d : Dev nD) :
    ((reg0 X3 Y4 X5 Y6).pre d : sProp 𝕄)
      = iprop((((SparseCore.T d).loc main_v3 ↦{fullShare} X3 d) ∗ ((SparseCore.T d).loc main_v4 ↦{fullShare} Y4 d)) ∗ OW (F := F) 0 d) := by
  have h := Pipeline.arrays_eq (Pipeline.pin (pcfgs (F := F)) adm) (pdats X3 Y4 X5 Y6) 0 d launch0.arr_whole
    ((pdats X3 Y4 X5 Y6 0 d).share_full fun _ => rfl) ((pdats X3 Y4 X5 Y6 0 d).arrAt · 0)
  refine congrArg (fun z => iprop(z ∗ OW (F := F) 0 d)) (h.trans ?_)
  exact bigSep_W0 _

theorem reg0_post (d : Dev nD) (Z : S1x3136.Idx → Elt F .i32) (hZ : Z = (k0_pay1 (X3 d) : S1x3136.Idx → Elt F .i32)) :
    ((reg0 X3 Y4 X5 Y6).post d : sProp 𝕄)
      = iprop((((SparseCore.T d).loc main_v3 ↦{fullShare} X3 d) ∗ ((SparseCore.T d).loc main_v4 ↦{fullShare} Z)) ∗ OW (F := F) 0 d) := by
  have h := Pipeline.arrays_eq (Pipeline.pin (pcfgs (F := F)) adm) (pdats X3 Y4 X5 Y6) 0 d launch0.arr_whole
    ((pdats X3 Y4 X5 Y6 0 d).share_full fun _ => rfl) ((pdats X3 Y4 X5 Y6 0 d).arrAt · cfg0.N)
  refine congrArg (fun z => iprop(z ∗ OW (F := F) 0 d)) (h.trans ?_)
  refine (bigSep_W0 _).trans ?_
  refine congrArg₂ (fun y z => iprop(y ∗ z)) ?_ ?_
  · exact congrArg (fun f => ((SparseCore.T d).loc main_v3 ↦{fullShare} f : sProp 𝕄)) ((pdats X3 Y4 X5 Y6 0 d).arrAt_in 0 rfl _)
  · exact congrArg (fun f => ((SparseCore.T d).loc main_v4 ↦{fullShare} f : sProp 𝕄)) ((arrAt0_1 X3 Y4 d).trans hZ.symm)

set_option backward.isDefEq.respectTransparency.types false in
/-- The region of pipeline 1: from its two arrays and what the TensorCore owes, to the result's array written. -/
def reg2 : Pipeline.RegionSeg (pcfgs (F := F)) adm (pdats X3 Y4 X5 Y6) none (defs₀ (F := F)) 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (obligation2 X5 Y6 c).loose
  hwaits c := cellsWaits_below (pdats X3 Y4 X5 Y6) 1 c 1 (fun _ => rfl)
  pre c := iprop((pdats X3 Y4 X5 Y6 1 c).arrays ((pdats X3 Y4 X5 Y6 1 c).arrAt · 0) ∗ OW (F := F) 1 c)
  post c := iprop((pdats X3 Y4 X5 Y6 1 c).arrays ((pdats X3 Y4 X5 Y6 1 c).arrAt · (cfg2).N) ∗ OW (F := F) 1 c)
  X _ := BI.emp
  Y _ := BI.emp
  Z _ := BI.emp
  hentry c := by
    rw [Pipeline.ownSems0_none]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (OW_entry (F := F) (pdats X3 Y4 X5 Y6 1 c) 1 0 rfl rfl) $$ HO
    isplitr <;> iempintro
  hin c := by
    rw [show (pdats X3 Y4 X5 Y6 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats X3 Y4 X5 Y6 1 c).Φ (Fin.last _)
      = Pipeline.scopedRest (Ix := HIx 1) (Name := ℕ) (U := UU) (Lvl := ℕ) (Val := Elt F) spec2 c from rfl]
    iintro Hr
    isplitr; · iempintro
    isplitr; · iempintro
    iexact Hr
  hexit c := by
    iintro ⟨Ha, HO, -, -⟩
    imodintro
    isplitl [Ha]; · iexact Ha
    iapply (OW_exit (F := F) (pdats X3 Y4 X5 Y6 1 c) 1 (Fin.last _) rfl rfl) $$ HO

/-- What the region is entered from and what it leaves, as its two arrays. -/
theorem reg2_pre (d : Dev nD) :
    ((reg2 X3 Y4 X5 Y6).pre d : sProp 𝕄)
      = iprop((((SparseCore.T d).loc main_v5 ↦{fullShare} X5 d) ∗ ((SparseCore.T d).loc main_v6 ↦{fullShare} Y6 d)) ∗ OW (F := F) 1 d) := by
  have h := Pipeline.arrays_eq (Pipeline.pin (pcfgs (F := F)) adm) (pdats X3 Y4 X5 Y6) 1 d launch2.arr_whole
    ((pdats X3 Y4 X5 Y6 1 d).share_full fun _ => rfl) ((pdats X3 Y4 X5 Y6 1 d).arrAt · 0)
  refine congrArg (fun z => iprop(z ∗ OW (F := F) 1 d)) (h.trans ?_)
  exact bigSep_W2 _

theorem reg2_post (d : Dev nD) (Z : S1x1.Idx → Elt F .f32) (hZ : Z = ((fun _ => redVal (X5 d)) : S1x1.Idx → Elt F .f32)) :
    ((reg2 X3 Y4 X5 Y6).post d : sProp 𝕄)
      = iprop((((SparseCore.T d).loc main_v5 ↦{fullShare} X5 d) ∗ ((SparseCore.T d).loc main_v6 ↦{fullShare} Z)) ∗ OW (F := F) 1 d) := by
  have h := Pipeline.arrays_eq (Pipeline.pin (pcfgs (F := F)) adm) (pdats X3 Y4 X5 Y6) 1 d launch2.arr_whole
    ((pdats X3 Y4 X5 Y6 1 d).share_full fun _ => rfl) ((pdats X3 Y4 X5 Y6 1 d).arrAt · cfg2.N)
  refine congrArg (fun z => iprop(z ∗ OW (F := F) 1 d)) (h.trans ?_)
  refine (bigSep_W2 _).trans ?_
  refine congrArg₂ (fun y z => iprop(y ∗ z)) ?_ ?_
  · exact congrArg (fun f => ((SparseCore.T d).loc main_v5 ↦{fullShare} f : sProp 𝕄)) ((pdats X3 Y4 X5 Y6 1 d).arrAt_in 0 rfl _)
  · exact congrArg (fun f => ((SparseCore.T d).loc main_v6 ↦{fullShare} f : sProp 𝕄)) ((arrAt2_1 X5 Y6 d).trans hZ.symm)

end Cert.Proof.Hist
-- ==== Proof.Calls.lean ====
/-
  The arrays of the SparseCore call, dealt to the tiles and gathered from them: the edge arrays and the packed words in shares,
  the result in parts, one after the other.
-/
module

public import proofs.«01_k».proof.Proof.TcRegion

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (A B : Dev nD → S2x3200000.Idx → BitVec 32) (w : Dev nD → S1x3136.Idx → BitVec 32)

/-! ## The arrays every tile reads -/

omit [FloatOps F] in
/-- An array held whole, as one share for each tile and a rest. -/
theorem shares_split (ℓ : Loc nD τ sig) (f : Buf (Elt F) ℓ) :
    (ℓ ↦{fullShare} f : sProp 𝕄) ⊢ iprop((ℓ ↦{Transfers.shareDrop fullShare 2} f)
      ∗ bigSep Finset.univ fun c : Fin 2 => bigSep Finset.univ fun i : Fin 16 => ℓ ↦{tileShare (coordsV c i)} f) := by
  refine (Transfers.pointsTo_toks_split fullShare 2).trans (sep_mono Entails.rfl (BI.bigSep_mono fun c _ => ?_))
  exact (Transfers.pointsTo_toks_split (Transfers.shareTok fullShare 2 c) 16).trans sep_elim_right

omit [FloatOps F] in
/-- The row of packed words a tile reads is the whole array. -/
theorem pkSrc_set : (pkSrc mW).view.set = Finset.univ := by
  refine (View.set_reshape (v := (mW.slice (Rect.unit (s := S1x3136) ![0, 0] S1x3136.size inb_S1x3136_S1x3136_0_0) (fun _ => rfl)).view) _).trans ?_
  refine (View.set_slice_whole main_v4_scv (Rect.unit (s := S1x3136) ![0, 0] S1x3136.size inb_S1x3136_S1x3136_0_0)).trans ?_
  refine Finset.eq_univ_iff_forall.mpr fun y => Rect.mem_set_unit.mpr fun a => ?_
  match a with
  | 0 => exact ⟨Nat.zero_le _, lt_of_lt_of_eq (y 0).isLt (Nat.zero_add _).symm⟩
  | 1 => exact ⟨Nat.zero_le _, lt_of_lt_of_eq (y 1).isLt (Nat.zero_add _).symm⟩

/-! ## The result's parts -/

/-- A tile's part of the result, as a set of places. -/
def part (c : Fin 2) (i : Fin 16) : Finset S3211264.Idx := (outDst (coordsV c i) mO).view.set

omit [FloatOps F] in
theorem mem_part (c : Fin 2) (i : Fin 16) (x : S3211264.Idx) : x ∈ part c i ↔ (x 0).val / 100352 = 2 * i.val + c.val := by
  have e : part c i = (Rect.unit (s := S3211264) (k1_off15 (coordsV c i)) S100352.size (k1_off15_inb (coordsV c i))).set :=
    View.set_slice_whole main_v5_scv _
  have o : k1_off15 (coordsV c i) 0 = 200704 * i.val + 100352 * c.val := by rw [k1_off15_eq]; rfl
  rw [e, Rect.mem_set_unit]
  have hs : S100352.size 0 = 100352 := rfl
  constructor
  · intro h
    have h0 := h 0
    rw [o, hs] at h0
    omega
  · intro h a
    match a with
    | 0 => rw [o, hs]; omega

omit [FloatOps F] in
theorem part_disjoint (c c' : Fin 2) (i i' : Fin 16) (h : (c, i) ≠ (c', i')) : Disjoint (part c i) (part c' i') := by
  refine Finset.disjoint_left.mpr fun x h1 h2 => h ?_
  have e1 := (mem_part c i x).mp h1
  have e2 := (mem_part c' i' x).mp h2
  have := c.isLt; have := c'.isLt
  exact Prod.ext (Fin.ext (show c.val = c'.val by omega)) (Fin.ext (show i.val = i'.val by omega))

omit [FloatOps F] in
theorem part_cover : (Finset.univ.biUnion fun c : Fin 2 => Finset.univ.biUnion fun i : Fin 16 => part c i) = Finset.univ := by
  refine Finset.eq_univ_iff_forall.mpr fun x => ?_
  have hx : (x 0).val < 3211264 := (x 0).isLt
  refine Finset.mem_biUnion.mpr ⟨⟨(x 0).val / 100352 % 2, by omega⟩, Finset.mem_univ _, Finset.mem_biUnion.mpr
    ⟨⟨(x 0).val / 100352 / 2, by omega⟩, Finset.mem_univ _, (mem_part _ _ _).mpr ?_⟩⟩
  show (x 0).val / 100352 = 2 * ((x 0).val / 100352 / 2) + (x 0).val / 100352 % 2
  omega

omit [FloatOps F] in
/-- The result held whole is its parts. -/
theorem parts_eq (d : Dev nD) (f : Buf (Elt F) (oLoc d)) :
    (oLoc d ↦{fullShare} f : sProp 𝕄)
      = bigSep Finset.univ fun c : Fin 2 => bigSep Finset.univ fun i : Fin 16 => oLoc d ↦[part c i]{fullShare} f := by
  have h1 : ∀ c : Fin 2, (oLoc d ↦[Finset.univ.biUnion fun i : Fin 16 => part c i]{fullShare} f : sProp 𝕄)
      = bigSep Finset.univ fun i : Fin 16 => oLoc d ↦[part c i]{fullShare} f := fun c =>
    pointsTo_biUnion (ℓ := oLoc d) Finset.univ (fun i => part c i) fun i _ i' _ hi => part_disjoint c c i i' fun e => hi (Prod.mk.inj e).2
  have h2 : (oLoc d ↦[Finset.univ.biUnion fun c : Fin 2 => Finset.univ.biUnion fun i : Fin 16 => part c i]{fullShare} f : sProp 𝕄)
      = bigSep Finset.univ fun c : Fin 2 => oLoc d ↦[Finset.univ.biUnion fun i : Fin 16 => part c i]{fullShare} f :=
    pointsTo_biUnion (ℓ := oLoc d) Finset.univ (fun c => Finset.univ.biUnion fun i => part c i) fun c _ c' _ hc =>
      (Finset.disjoint_biUnion_left _ _ _).mpr fun i _ => (Finset.disjoint_biUnion_right _ _ _).mpr fun i' _ =>
        part_disjoint c c' i i' fun e => hc (Prod.mk.inj e).1
  have h3 : (oLoc d ↦{fullShare} f : sProp 𝕄)
      = (oLoc d ↦[Finset.univ.biUnion fun c : Fin 2 => Finset.univ.biUnion fun i : Fin 16 => part c i]{fullShare} f : sProp 𝕄) := by
    rw [part_cover]
  rw [h3, h2]
  exact bigSep_congr fun c _ => h1 c

/-- The tile with a number below thirty-two. -/
def tileAt (k : ℕ) : grid1.Coords := coordsV ⟨k % 2, Nat.mod_lt _ (by decide)⟩ ⟨k / 2 % 16, Nat.mod_lt _ (by decide)⟩

omit [FloatOps F] in
theorem tileAt_eq (c : Fin 2) (i : Fin 16) : tileAt (2 * i.val + c.val) = coordsV c i := by
  have := c.isLt; have := i.isLt
  unfold tileAt
  congr 1
  · exact Fin.ext (show (2 * i.val + c.val) % 2 = c.val by omega)
  · exact Fin.ext (show (2 * i.val + c.val) / 2 % 16 = i.val by omega)

/-- What the call leaves: the thirty-two tiles' histograms, one after the other. -/
def resVal (d : Dev nD) : S3211264.Idx → BitVec 32 := fun x =>
  tileSum (at1 (pkRead (F := F) (w d))) (A d) (B d) (tileAt ((x 0).val / 100352)) ((x 0).val % 100352)

/-- A tile's histogram is the whole result on the tile's part. -/
theorem tileOut_part (d : Dev nD) (c : Fin 2) (i : Fin 16) :
    (tileOut (F := F) A B w d (coordsV c i) : sProp 𝕄) ⊢ (oLoc d ↦[part c i]{fullShare} (resVal (F := F) A B w d : Vec F S3211264 .i32) : sProp 𝕄) := by
  unfold tileOut owns
  iintro ⟨%f, %hf, H⟩
  iapply (Entails.of_eq (pointsTo_congr (ℓ := oLoc d) (I := part c i) (q := fullShare) (f := f) (g := (resVal (F := F) A B w d : Vec F S3211264 .i32)) ?_))
  · intro x hx
    obtain ⟨z, -, hz⟩ := Finset.mem_map.mp hx
    have e : f ((outDst (coordsV c i) mO).view.emb z) = tileVal (F := F) A B w d (coordsV c i) z := congrFun hf z
    rw [← hz]
    refine e.trans ?_
    have e0 : (((outDst (coordsV c i) mO).view.emb z) 0).val = 200704 * i.val + 100352 * c.val + (z 0).val := by
      have o : k1_off15 (coordsV c i) 0 = 200704 * i.val + 100352 * c.val := by rw [k1_off15_eq]; rfl
      rw [← o]
      show k1_off15 (coordsV c i) 0 + 1 * (z 0).val = _
      omega
    have hz0 : (z 0).val < 100352 := (z 0).isLt
    have := c.isLt; have := i.isLt
    unfold tileVal resVal
    rw [e0, show (200704 * i.val + 100352 * c.val + (z 0).val) / 100352 = 2 * i.val + c.val by omega,
      show (200704 * i.val + 100352 * c.val + (z 0).val) % 100352 = (z 0).val by omega, tileAt_eq]
  · iexact H

/-! ## The call's two ends -/

theorem st0_eq (d : Dev nD) : (bigSep Finset.univ fun c : Fin ((K (F := F)).nCore 0) => (P (F := F) A B w).st 0 d c)
    = bigSep Finset.univ fun c : Fin 2 => bigSep Finset.univ fun i : Fin 16 => tileIn (F := F) A B w d (coordsV c i) := rfl
theorem dn0_eq (d : Dev nD) : (bigSep Finset.univ fun c : Fin ((K (F := F)).nCore 0) => (P (F := F) A B w).dn 0 d c)
    = bigSep Finset.univ fun c : Fin 2 => bigSep Finset.univ fun i : Fin 16 => tileOut (F := F) A B w d (coordsV c i) := rfl

theorem tileIn_intro (d : Dev nD) (Z : Buf (Elt F) (oLoc d)) (c : Fin 2) (i : Fin 16) :
    (iprop((aLoc d ↦{tileShare (coordsV c i)} (A d : Vec F S2x3200000 .i32)) ∗ (bLoc d ↦{tileShare (coordsV c i)} (B d : Vec F S2x3200000 .i32))
      ∗ (wLoc d ↦{tileShare (coordsV c i)} (w d : Vec F S1x3136 .i32)) ∗ (oLoc d ↦[part c i]{fullShare} Z)) : sProp 𝕄)
      ⊢ tileIn (F := F) A B w d (coordsV c i) := by
  unfold tileIn
  iintro ⟨HA, HB, HW, HO⟩
  isplitl [HA]
  · iapply (Entails.of_eq (owns_whole (thr d (coordsV c i)) main_arg1_scv _ _).symm); iexact HA
  isplitl [HB]
  · iapply (Entails.of_eq (owns_whole (thr d (coordsV c i)) main_arg2_scv _ _).symm); iexact HB
  isplitl [HW]
  · unfold owns
    iexists (w d : Vec F S1x3136 .i32)
    isplitr
    · ipureintro; rfl
    · rw [pkSrc_set]; iexact HW
  · iexists ((outDst (coordsV c i) mO).view.read (Elt F) Z)
    unfold owns
    iexists Z
    isplitr
    · ipureintro; rfl
    · iexact HO

/-- What the call takes. -/
theorem call_take (d : Dev nD) (Z : Buf (Elt F) (oLoc d)) :
    (iprop((aLoc d ↦{fullShare} (A d : Vec F S2x3200000 .i32)) ∗ (bLoc d ↦{fullShare} (B d : Vec F S2x3200000 .i32))
      ∗ (wLoc d ↦{fullShare} (w d : Vec F S1x3136 .i32)) ∗ (oLoc d ↦{fullShare} Z)) : sProp 𝕄)
      ⊢ iprop((aLoc d ↦{Transfers.shareDrop fullShare 2} (A d : Vec F S2x3200000 .i32))
        ∗ (bLoc d ↦{Transfers.shareDrop fullShare 2} (B d : Vec F S2x3200000 .i32))
        ∗ bigSep Finset.univ fun c : Fin ((K (F := F)).nCore 0) => (P (F := F) A B w).st 0 d c) := by
  iintro ⟨HA, HB, HW, HO⟩
  ihave HA := (shares_split _ _) $$ HA
  ihave HB := (shares_split _ _) $$ HB
  ihave HW := (shares_split _ _) $$ HW
  icases HA with ⟨HA', HA⟩
  icases HB with ⟨HB', HB⟩
  icases HW with ⟨-, HW⟩
  ihave HO := (Entails.of_eq (parts_eq d Z)) $$ HO
  isplitl [HA']; · iexact HA'
  isplitl [HB']; · iexact HB'
  rw [st0_eq]
  ihave H := (show iprop((bigSep Finset.univ fun c : Fin 2 => bigSep Finset.univ fun i : Fin 16 => aLoc d ↦{tileShare (coordsV c i)} (A d : Vec F S2x3200000 .i32))
      ∗ (bigSep Finset.univ fun c : Fin 2 => bigSep Finset.univ fun i : Fin 16 => bLoc d ↦{tileShare (coordsV c i)} (B d : Vec F S2x3200000 .i32))
      ∗ (bigSep Finset.univ fun c : Fin 2 => bigSep Finset.univ fun i : Fin 16 => wLoc d ↦{tileShare (coordsV c i)} (w d : Vec F S1x3136 .i32))
      ∗ (bigSep Finset.univ fun c : Fin 2 => bigSep Finset.univ fun i : Fin 16 => oLoc d ↦[part c i]{fullShare} Z))
      ⊢ (bigSep Finset.univ fun c : Fin 2 => bigSep Finset.univ fun i : Fin 16 => tileIn (F := F) A B w d (coordsV c i) : sProp 𝕄) from ?_) $$ [HA HB HW HO]
  · rw [← bigSep_sep', ← bigSep_sep', ← bigSep_sep']
    refine BI.bigSep_mono fun c _ => ?_
    rw [← bigSep_sep', ← bigSep_sep', ← bigSep_sep']
    exact BI.bigSep_mono fun i _ => tileIn_intro A B w d Z c i
  · isplitl [HA]; · iexact HA
    isplitl [HB]; · iexact HB
    isplitl [HW]; · iexact HW
    iexact HO
  iexact H

/-- What the call hands back. -/
theorem call_give (d : Dev nD) :
    (bigSep Finset.univ fun c : Fin ((K (F := F)).nCore 0) => (P (F := F) A B w).dn 0 d c : sProp 𝕄)
      ⊢ (oLoc d ↦{fullShare} (resVal (F := F) A B w d : Vec F S3211264 .i32) : sProp 𝕄) := by
  rw [dn0_eq, parts_eq]
  exact BI.bigSep_mono fun c _ => BI.bigSep_mono fun i _ => tileOut_part A B w d c i

end Cert.Proof.Hist
-- ==== Proof.Main.lean ====
/-
  The whole program's run: the host lays out the node values, a TensorCore region packs their bits, the SparseCores' tiles count,
  a second region adds the tiles' counts and takes the least; the arguments are left as they were.
-/
module

public import proofs.«01_k».proof.Proof.Calls

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

/-! ## The pipelines' ghost state at launch -/

theorem pipes_inj : Function.Injective (Pipeline.cellOf (nD := nD) (τ := τ) (Pipeline.pin (pcfgs (F := F)) adm)) := cellOf_inj

/-- What the launch starts from: the handshakes' rounds and the two pipelines'. -/
def u₀ : UU := (initOf (K (F := F)).hsCells (K (F := F)).hsToks,
  (initOf (Pipeline.cells (Pipeline.pin (pcfgs (F := F)) adm) pipes_inj) (Pipeline.launchToks (Pipeline.pin (pcfgs (F := F)) adm) pipes_inj), 1))

omit [FloatOps F] in
theorem ownU_parts (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The two pipelines' ghost state on a device. -/
def pipesG (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

theorem hu₀ (A B : Dev nD → S2x3200000.Idx → BitVec 32) (w : Dev nD → S1x3136.Idx → BitVec 32) : (ownU (u₀ (F := F)) : sProp 𝕄)
    ⊢ |={Set.univ}=> iprop(BI.own (EH (initOf (K (F := F)).hsCells (K (F := F)).hsToks)) ∗ (bigSep Finset.univ (pipesG (F := F)))
        ∗ bigSep Finset.univ fun thr : Thread nD τ => bigSep Finset.univ fun q : Fin 1 => (P (F := F) A B w).x q thr) := by
  unfold u₀
  iintro Hu
  ihave H := (ownU_parts _ _) $$ Hu
  icases H with ⟨HH, HP⟩
  imod (Pipeline.fund_ghost (Pipeline.pin (pcfgs (F := F)) adm) (EP (F := F)) pipes_inj) $$ HP with ⟨Hc, Ht⟩
  imodintro
  isplitl [HH]; · iexact HH
  isplitl [Hc Ht]
  · rw [show (pipesG (F := F)) = fun d => pipesG d from rfl]
    unfold pipesG
    rw [bigSep_sep']
    isplitl [Hc]; · iexact Hc
    iexact Ht
  rw [show (bigSep Finset.univ fun thr : Thread nD τ => bigSep Finset.univ fun q : Fin 1 => (P (F := F) A B w).x q thr) = iprop(emp) from by
    unfold P; dsimp only
    exact (bigSep_congr fun _ _ => bigSep_emp_const _).trans (bigSep_emp_const _)]
  iempintro

/-! ## One region, at the launch's table -/

theorem region_step [∀ e, Nonempty (Elt F e)] (p : Fin 2)
    {pd : (p : Fin 2) → (d : Dev nD) → Pipeline.Dat τ (Elt F) (HIx 1) ℕ UU ℕ (Pipeline.pin (pcfgs (F := F)) adm p) d}
    (R : Pipeline.RegionSeg (pcfgs (F := F)) adm pd none (defs₀ (F := F)) 𝒱₀ (K (F := F)).L (K (F := F)).lev p) (d : Dev nD)
    (Q : PUnit → sProp (MT nD τ sig (HIx 1) (Elt F) ℕ UU ℕ)) :
    iprop(((boundary (SparseCore.T d) ∗ R.post d) -∗ Q ⟨⟩) ∗ boundary (SparseCore.T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱p (SparseCore.T d) none) Set.univ
          (Prog.lift (.customCall (SparseCore.inner (Pipeline.entry p)) ())) Q := by
  refine BIBase.Entails.trans ?_ ((K (F := F)).wp_liftProg (D (F := F)) 𝒱p (SparseCore.T d) Set.univ none (Prog.lift (.customCall (Pipeline.entry p) ())) Q)
  refine BIBase.Entails.trans ?_ (Pipeline.RegionSeg.wp (pcfgs (F := F)) adm pd none pipes_inj EP (defs₀ (F := F)) 𝒱₀ (K (F := F)).L (K (F := F)).lev R d none
    (fun _ h => nomatch h) (fun x => .ret x) Q)
  iintro ⟨Hk, Hb, Hpre, Hl, Hc, Ht⟩
  isplitl [Hk]
  · iintro H
    rw [wp_ret]; imodintro
    iapply Hk $$ H
  isplitl [Hb]; · iexact Hb
  isplitl [Hpre]; · iexact Hpre
  isplitl [Hl]; · iexact Hl
  isplitl [Hc]; · iexact Hc
  iexact Ht

/-! ## The host's arrays -/

abbrev r_arg0 : DevRef τ sig := Proc.devRef .tc (main_arg0 : Ref sig .tc)
abbrev r_arg1 : DevRef τ sig := Proc.devRef .tc (main_arg1 : Ref sig .tc)
abbrev r_arg2 : DevRef τ sig := Proc.devRef .tc (main_arg2 : Ref sig .tc)
abbrev r_cst : DevRef τ sig := Proc.devRef .tc (main_cst : Ref sig .tc)
abbrev r_v0 : DevRef τ sig := Proc.devRef .tc (main_v0 : Ref sig .tc)
abbrev r_v1 : DevRef τ sig := Proc.devRef .tc (main_v1 : Ref sig .tc)
abbrev r_v2 : DevRef τ sig := Proc.devRef .tc (main_v2 : Ref sig .tc)
abbrev r_v3 : DevRef τ sig := Proc.devRef .tc (main_v3 : Ref sig .tc)
abbrev r_v4 : DevRef τ sig := Proc.devRef .tc (main_v4 : Ref sig .tc)
abbrev r_v5 : DevRef τ sig := Proc.devRef .tc (main_v5 : Ref sig .tc)
abbrev r_v6 : DevRef τ sig := Proc.devRef .tc (main_v6 : Ref sig .tc)
abbrev r_v7 : DevRef τ sig := Proc.devRef .tc (main_v7 : Ref sig .tc)

/-- The TensorCore's arrays of @main. -/
abbrev Sall : Finset (DevRef τ sig) := {r_arg0, r_arg1, r_arg2, r_cst, r_v0, r_v1, r_v2, r_v3, r_v4, r_v5, r_v6, r_v7}

omit [FloatOps F] in
theorem held_all (d : Dev nD) (W : Valuation τ sig (Elt F)) :
    (held (SparseCore.T d) Sall W : sProp 𝕄) = iprop(((SparseCore.T d).loc main_arg0 ↦{fullShare} W r_arg0) ∗ ((SparseCore.T d).loc main_arg1 ↦{fullShare} W r_arg1) ∗ ((SparseCore.T d).loc main_arg2 ↦{fullShare} W r_arg2) ∗ ((SparseCore.T d).loc main_cst ↦{fullShare} W r_cst) ∗ ((SparseCore.T d).loc main_v0 ↦{fullShare} W r_v0) ∗ ((SparseCore.T d).loc main_v1 ↦{fullShare} W r_v1) ∗ ((SparseCore.T d).loc main_v2 ↦{fullShare} W r_v2) ∗ ((SparseCore.T d).loc main_v3 ↦{fullShare} W r_v3) ∗ ((SparseCore.T d).loc main_v4 ↦{fullShare} W r_v4) ∗ ((SparseCore.T d).loc main_v5 ↦{fullShare} W r_v5) ∗ ((SparseCore.T d).loc main_v6 ↦{fullShare} W r_v6) ∗ ((SparseCore.T d).loc main_v7 ↦{fullShare} W r_v7)) := by
  unfold held Sall
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

variable (m : (ℓ : Loc nD τ sig) → Buf (Elt F) ℓ) (ρ : Dev nD → PrngReg)

/-- The launch valuation. -/
def V0 (d : Dev nD) : Valuation τ sig (Elt F) := fun b => m (d, b)

omit [FloatOps F] in
set_option maxRecDepth 4000 in
theorem unscoped_held (d : Dev nD) : (unscopedBufs d (fun b => m ((SparseCore.T d).loc b)) : sProp 𝕄) = held (SparseCore.T d) Sall (V0 m d) := by
  rw [held_all]
  unfold unscopedBufs
  rw [show (Finset.univ.filter fun b : Ref sig .tc => ¬ b.isScoped) = {main_arg0, main_arg1, main_arg2, main_cst, main_v0, main_v1, main_v2, main_v3, main_v4, main_v5, main_v6, main_v7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

abbrev op0 : HloOp τ sig (Elt F) := StableHlo.nullary main_cst (constant S_ .f32 0x00000000#32)
abbrev op1 : HloOp τ sig (Elt F) := StableHlo.unary main_cst main_v0 (broadcastInDim S352 ![] bcast_S_S352 : (⟨S_, .f32⟩ : BufTy).Contents (Elt F) → (⟨S352, .f32⟩ : BufTy).Contents (Elt F))
abbrev op2 : HloOp τ sig (Elt F) := StableHlo.binary main_arg0 main_v0 main_v1 ((fun a b => concatenate S100352 0 [⟨S100000, a⟩, ⟨S352, b⟩] concatenates_S100000_S352_S100352_d0) : (⟨S100000, .f32⟩ : BufTy).Contents (Elt F) → (⟨S352, .f32⟩ : BufTy).Contents (Elt F) → (⟨S100352, .f32⟩ : BufTy).Contents (Elt F))
abbrev op3 : HloOp τ sig (Elt F) := StableHlo.reshape main_v1 main_v2 (rfl : (.f32 : EltTy) = .f32) shapeCasts_S100352_S3136x32
abbrev op4 : HloOp τ sig (Elt F) := StableHlo.unary main_v2 main_v3 ((transpose S32x3136 [1, 0] · transposes_S3136x32_S32x3136_1_0) : (⟨S3136x32, .f32⟩ : BufTy).Contents (Elt F) → (⟨S32x3136, .f32⟩ : BufTy).Contents (Elt F))
abbrev opR : HloOp τ sig (Elt F) := StableHlo.reshape main_v6 main_v7 (rfl : (.f32 : EltTy) = .f32) shapeCasts_S1x1_S_

theorem sub0 : (op0 (F := F)).bufs ⊆ Sall := show ({r_cst} : Finset (DevRef τ sig)) ⊆ Sall by decide
theorem sub1 : (op1 (F := F)).bufs ⊆ Sall := show ({r_cst, r_v0} : Finset (DevRef τ sig)) ⊆ Sall by decide
theorem sub2 : (op2 (F := F)).bufs ⊆ Sall := show ({r_arg0, r_v0, r_v1} : Finset (DevRef τ sig)) ⊆ Sall by decide
theorem sub3 : (op3 (F := F)).bufs ⊆ Sall := show ({r_v1, r_v2} : Finset (DevRef τ sig)) ⊆ Sall by decide
theorem sub4 : (op4 (F := F)).bufs ⊆ Sall := show ({r_v2, r_v3} : Finset (DevRef τ sig)) ⊆ Sall by decide
theorem subR : (opR (F := F)).bufs ⊆ Sall := show ({r_v6, r_v7} : Finset (DevRef τ sig)) ⊆ Sall by decide

/-- The arrays once the host has laid out the node values. -/
def V5 (d : Dev nD) : Valuation τ sig (Elt F) :=
  (op4 (F := F)).result ((op3 (F := F)).result ((op2 (F := F)).result ((op1 (F := F)).result ((op0 (F := F)).result (V0 m d)))))

/-- The node values as the packing reads them: padded with zeros, cut into rows of thirty-two and turned. -/
def nodeRows (xv : S100000.Idx → F .f32) : S32x3136.Idx → F .f32 :=
  transpose S32x3136 [1, 0] (shapeCast S3136x32 (concatenate S100352 0 [⟨S100000, (xv : FVec F S100000 .f32)⟩,
    ⟨S352, broadcastInDim S352 ![] bcast_S_S352 (constant S_ .f32 0x00000000#32 : FVec F S_ .f32)⟩] concatenates_S100000_S352_S100352_d0 : FVec F S100352 .f32)
    shapeCasts_S100352_S3136x32) transposes_S3136x32_S32x3136_1_0

abbrev xLoc (d : Dev nD) : Loc nD τ sig := (SparseCore.T d).loc main_arg0
abbrev sLoc (d : Dev nD) : Loc nD τ sig := (SparseCore.T d).loc main_v7

theorem V5_arg0 (d : Dev nD) : V5 m d r_arg0 = m (xLoc d) := by
  unfold V5
  rw [StableHlo.unary_result_ne', StableHlo.reshape_result_ne', StableHlo.binary_result_ne', StableHlo.unary_result_ne', StableHlo.nullary_result_ne'] <;> first | rfl | decide
theorem V5_arg1 (d : Dev nD) : V5 m d r_arg1 = m (aLoc d) := by
  unfold V5
  rw [StableHlo.unary_result_ne', StableHlo.reshape_result_ne', StableHlo.binary_result_ne', StableHlo.unary_result_ne', StableHlo.nullary_result_ne'] <;> first | rfl | decide
theorem V5_arg2 (d : Dev nD) : V5 m d r_arg2 = m (bLoc d) := by
  unfold V5
  rw [StableHlo.unary_result_ne', StableHlo.reshape_result_ne', StableHlo.binary_result_ne', StableHlo.unary_result_ne', StableHlo.nullary_result_ne'] <;> first | rfl | decide
theorem V5_v4 (d : Dev nD) : V5 m d r_v4 = m (wLoc d) := by
  unfold V5
  rw [StableHlo.unary_result_ne', StableHlo.reshape_result_ne', StableHlo.binary_result_ne', StableHlo.unary_result_ne', StableHlo.nullary_result_ne'] <;> first | rfl | decide
theorem V5_v5 (d : Dev nD) : V5 m d r_v5 = m (oLoc d) := by
  unfold V5
  rw [StableHlo.unary_result_ne', StableHlo.reshape_result_ne', StableHlo.binary_result_ne', StableHlo.unary_result_ne', StableHlo.nullary_result_ne'] <;> first | rfl | decide
theorem V5_v6 (d : Dev nD) : V5 m d r_v6 = m ((SparseCore.T d).loc main_v6) := by
  unfold V5
  rw [StableHlo.unary_result_ne', StableHlo.reshape_result_ne', StableHlo.binary_result_ne', StableHlo.unary_result_ne', StableHlo.nullary_result_ne'] <;> first | rfl | decide
theorem V5_v7 (d : Dev nD) : V5 m d r_v7 = m (sLoc d) := by
  unfold V5
  rw [StableHlo.unary_result_ne', StableHlo.reshape_result_ne', StableHlo.binary_result_ne', StableHlo.unary_result_ne', StableHlo.nullary_result_ne'] <;> first | rfl | decide

theorem V5_v3 (d : Dev nD) : V5 m d r_v3 = nodeRows (F := F) (m (xLoc d)) := by
  unfold V5
  rw [StableHlo.unary_result', StableHlo.reshape_result', StableHlo.binary_result', StableHlo.unary_result', StableHlo.nullary_result',
    StableHlo.unary_result_ne', StableHlo.nullary_result_ne']
  · rfl
  · decide
  · decide

/-! ## What the program computes -/

/-- The packed bits of the nodes. -/
def wordsOf (d : Dev nD) : S1x3136.Idx → BitVec 32 := (k0_pay1 (nodeRows (F := F) (m (xLoc d)) : Vec F S32x3136 .f32) : Vec F S1x3136 .i32)
abbrev edgesA (d : Dev nD) : S2x3200000.Idx → BitVec 32 := m (aLoc d)
abbrev edgesB (d : Dev nD) : S2x3200000.Idx → BitVec 32 := m (bLoc d)
/-- The thirty-two histograms. -/
def histsOf (d : Dev nD) : S3211264.Idx → BitVec 32 := resVal (F := F) (edgesA m) (edgesB m) (wordsOf m) d
/-- The result. -/
def ansOf (d : Dev nD) : F .f32 := redVal (F := F) (histsOf m d)

/-- The arrays before the last reshape. -/
def V6 (d : Dev nD) : Valuation τ sig (Elt F) := Function.update (V0 m d) r_v6 (fun _ => ansOf m d : Vec F S1x1 .f32)
theorem V6_v6 (d : Dev nD) : V6 m d r_v6 = (fun _ => ansOf m d : Vec F S1x1 .f32) := Function.update_self _ _ _
theorem V6_v7 (d : Dev nD) : V6 m d r_v7 = m (sLoc d) := Function.update_of_ne (show r_v7 ≠ r_v6 by decide) _ _
theorem V6R_v7 (d : Dev nD) : (opR (F := F)).result (V6 m d) r_v7 = (fun _ => ansOf m d : Vec F S_ .f32) := by
  rw [StableHlo.reshape_result', V6_v6]
  rfl

theorem held_pair (d : Dev nD) (W : Valuation τ sig (Elt F)) :
    (held (SparseCore.T d) {r_v6, r_v7} W : sProp 𝕄) = iprop(((SparseCore.T d).loc main_v6 ↦{fullShare} W r_v6) ∗ (sLoc d ↦{fullShare} W r_v7)) := by
  unfold held
  rw [SparseCore.bigSep_insert' (by decide), bigSep_singleton]

theorem subR' : (opR (F := F)).bufs ⊆ ({r_v6, r_v7} : Finset (DevRef τ sig)) := show ({r_v6, r_v7} : Finset (DevRef τ sig)) ⊆ {r_v6, r_v7} by decide

/-! ## @main on the TensorCore -/

/-- What @main leaves the claim: the arguments and the result. -/
abbrev FIN (d : Dev nD) : sProp 𝕄 :=
  iprop((xLoc d ↦{fullShare} m (xLoc d)) ∗ (aLoc d ↦{Transfers.shareDrop fullShare 2} (edgesA m d : Vec F S2x3200000 .i32)) ∗ (bLoc d ↦{Transfers.shareDrop fullShare 2} (edgesB m d : Vec F S2x3200000 .i32))
    ∗ (sLoc d ↦{fullShare} (fun _ => ansOf m d : Vec F S_ .f32)))

/-- The TensorCore's handshake state, without what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom (Q := 1) n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some ((SparseCore.Cfg.Blocks.one 1).last q)) 1)))

theorem tcSt_eq (d : Dev nD) (n : ℕ) : ((K (F := F)).tcSt EH d n : sProp 𝕄) = iprop(OW (F := F) n d ∗ tcRest (F := F) d n) := by
  unfold SparseCore.Cfg.tcSt OW tcRest; rfl

abbrev PM : (K (F := F)).Pay (nD := nD) (Val := Elt F) (Name := ℕ) (U := UU) := P (F := F) (edgesA m) (edgesB m) (wordsOf m)

abbrev Y6 (d : Dev nD) : S1x1.Idx → Elt F .f32 := m ((SparseCore.T d).loc main_v6)
abbrev Y4 (d : Dev nD) : S1x3136.Idx → Elt F .i32 := m (wLoc d)
abbrev X3 (d : Dev nD) : S32x3136.Idx → Elt F .f32 := nodeRows (F := F) (m (xLoc d))
abbrev X5 (d : Dev nD) : S3211264.Idx → Elt F .i32 := histsOf m d

theorem pipesG_split (d : Dev nD) : (pipesG (F := F) d : sProp 𝕄) = iprop(
    (Pipeline.cellsGhost (Pipeline.pin (pcfgs (F := F)) adm) EP 0 d ∗ Pipeline.cellsGhost (Pipeline.pin (pcfgs (F := F)) adm) EP 1 d)
    ∗ Pipeline.toksInit (Pipeline.pin (pcfgs (F := F)) adm) EP 0 d ∗ Pipeline.toksInit (Pipeline.pin (pcfgs (F := F)) adm) EP 1 d) := by
  unfold pipesG
  rw [show (Finset.univ : Finset (Fin 2)) = {0, 1} by decide, SparseCore.bigSep_insert' (by decide), bigSep_singleton,
    SparseCore.bigSep_insert' (by decide), bigSep_singleton]

theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ pipesG (F := F) d)
      ⊢ wp frame (wpE ((K (F := F)).defs (D (F := F))) 𝒱p (SparseCore.T d) none) Set.univ (main (F := F) d)
          fun _ => iprop((K (F := F)).tcSt EH d 1 ∗ FIN m d ∗ (K (F := F)).tcEnd d) := by
  unfold SparseCore.Cfg.tcRes SparseCore.Cfg.tcEnd
  rw [unscoped_held, pipesG_split]
  simp only [main, wp_bind, wp_pure]
  iintro ⟨#Hctx, Hst, ⟨Hb, Hheld, Hts, -⟩, ⟨Hc0, Hc1⟩, Ht0, Ht1⟩
  iapply (wp_hlo_within 𝒱p (SparseCore.T d) none Set.univ (op := op0) (S := Sall) sub0 (V := V0 m d)) $$ [Hb Hheld]
  · isplitl [Hb]; · iexact Hb
    iexact Hheld
  iintro ⟨Hb, Hheld⟩
  rw [wp_ret]; imodintro
  iapply (wp_hlo_within 𝒱p (SparseCore.T d) none Set.univ (op := op1) (S := Sall) sub1 (V := (op0 (F := F)).result (V0 m d))) $$ [Hb Hheld]
  · isplitl [Hb]; · iexact Hb
    iexact Hheld
  iintro ⟨Hb, Hheld⟩
  rw [wp_ret]; imodintro
  iapply (wp_hlo_within 𝒱p (SparseCore.T d) none Set.univ (op := op2) (S := Sall) sub2 (V := (op1 (F := F)).result ((op0 (F := F)).result (V0 m d)))) $$ [Hb Hheld]
  · isplitl [Hb]; · iexact Hb
    iexact Hheld
  iintro ⟨Hb, Hheld⟩
  rw [wp_ret]; imodintro
  iapply (wp_hlo_within 𝒱p (SparseCore.T d) none Set.univ (op := op3) (S := Sall) sub3 (V := (op2 (F := F)).result ((op1 (F := F)).result ((op0 (F := F)).result (V0 m d))))) $$ [Hb Hheld]
  · isplitl [Hb]; · iexact Hb
    iexact Hheld
  iintro ⟨Hb, Hheld⟩
  rw [wp_ret]; imodintro
  iapply (wp_hlo_within 𝒱p (SparseCore.T d) none Set.univ (op := op4) (S := Sall) sub4 (V := (op3 (F := F)).result ((op2 (F := F)).result ((op1 (F := F)).result ((op0 (F := F)).result (V0 m d)))))) $$ [Hb Hheld]
  · isplitl [Hb]; · iexact Hb
    iexact Hheld
  iintro ⟨Hb, Hheld⟩
  rw [wp_ret]; imodintro
  ihave Hh := (Entails.of_eq (show held (SparseCore.T d) Sall ((op4 (F := F)).result ((op3 (F := F)).result ((op2 (F := F)).result ((op1 (F := F)).result ((op0 (F := F)).result (V0 m d))))))
    = iprop(((SparseCore.T d).loc main_arg0 ↦{fullShare} V5 m d r_arg0) ∗ ((SparseCore.T d).loc main_arg1 ↦{fullShare} V5 m d r_arg1) ∗ ((SparseCore.T d).loc main_arg2 ↦{fullShare} V5 m d r_arg2) ∗ ((SparseCore.T d).loc main_cst ↦{fullShare} V5 m d r_cst) ∗ ((SparseCore.T d).loc main_v0 ↦{fullShare} V5 m d r_v0) ∗ ((SparseCore.T d).loc main_v1 ↦{fullShare} V5 m d r_v1) ∗ ((SparseCore.T d).loc main_v2 ↦{fullShare} V5 m d r_v2) ∗ ((SparseCore.T d).loc main_v3 ↦{fullShare} V5 m d r_v3) ∗ ((SparseCore.T d).loc main_v4 ↦{fullShare} V5 m d r_v4) ∗ ((SparseCore.T d).loc main_v5 ↦{fullShare} V5 m d r_v5) ∗ ((SparseCore.T d).loc main_v6 ↦{fullShare} V5 m d r_v6) ∗ ((SparseCore.T d).loc main_v7 ↦{fullShare} V5 m d r_v7)) from held_all d (V5 m d))) $$ Hheld
  rw [V5_arg0, V5_arg1, V5_arg2, V5_v3, V5_v4, V5_v5, V5_v6, V5_v7]
  icases Hh with ⟨Hx, Ha, Hbb, -, -, -, -, H3, H4, H5, H6, H7⟩
  -- the packing
  ihave Hst := (Entails.of_eq (tcSt_eq d 0)) $$ Hst
  icases Hst with ⟨HO, Hst⟩
  iapply (region_step 0 (reg0 (X3 m) (Y4 m) (X5 m) (Y6 m)) d _)
  isplitr [Hb HO H3 H4 Hc0 Ht0]
  swap
  · isplitl [Hb]; · iexact Hb
    isplitl [HO H3 H4]
    · rw [reg0_pre]
      isplitl [H3 H4]
      · isplitl [H3]; · iexact H3
        iexact H4
      iexact HO
    isplitr
    · iapply (SparseCore.Cfg.ctx_levAts κ); iexact Hctx
    isplitl [Hc0]; · iexact Hc0
    iexact Ht0
  iintro ⟨Hb, Hpost⟩
  ihave Hpost := (Entails.of_eq (reg0_post (X3 m) (Y4 m) (X5 m) (Y6 m) d (wordsOf m d) rfl)) $$ Hpost
  icases Hpost with ⟨⟨-, H4⟩, HO⟩
  -- the histograms
  ihave Hcall := (call_take (F := F) (edgesA m) (edgesB m) (wordsOf m) d (m (oLoc d))) $$ [Ha Hbb H4 H5]
  · isplitl [Ha]; · iexact Ha
    isplitl [Hbb]; · iexact Hbb
    isplitl [H4]; · iexact H4
    iexact H5
  icases Hcall with ⟨Ha, Hbb, Hcall⟩
  iapply ((K (F := F)).wp_run (D (F := F)) 𝒱p (EH := EH) (P := PM m) κ d 0)
  isplitr; · iexact Hctx
  isplitl [HO Hst]
  · iapply (Entails.of_eq (tcSt_eq d 0).symm)
    isplitl [HO]; · iexact HO
    iexact Hst
  isplitl [Hcall]; · iexact Hcall
  iintro ⟨Hst, Hdn⟩
  ihave H5 := (call_give (F := F) (edgesA m) (edgesB m) (wordsOf m) d) $$ Hdn
  -- the reduction
  ihave Hst := (Entails.of_eq (tcSt_eq d ((0 : Fin 1).val + 1))) $$ Hst
  icases Hst with ⟨HO, Hst⟩
  iapply (region_step 1 (reg2 (X3 m) (Y4 m) (X5 m) (Y6 m)) d _)
  isplitr [Hb HO H5 H6 Hc1 Ht1]
  swap
  · isplitl [Hb]; · iexact Hb
    isplitl [HO H5 H6]
    · rw [reg2_pre]
      isplitl [H5 H6]
      · isplitl [H5]; · iexact H5
        iexact H6
      iexact HO
    isplitr
    · iapply (SparseCore.Cfg.ctx_levAts κ); iexact Hctx
    isplitl [Hc1]; · iexact Hc1
    iexact Ht1
  iintro ⟨Hb, Hpost⟩
  ihave Hpost := (Entails.of_eq (reg2_post (X3 m) (Y4 m) (X5 m) (Y6 m) d (fun _ => ansOf m d) rfl)) $$ Hpost
  icases Hpost with ⟨⟨-, H6⟩, HO⟩
  -- the result's reshape
  iapply (wp_hlo_within 𝒱p (SparseCore.T d) none Set.univ (op := opR) (S := {r_v6, r_v7}) subR' (V := V6 m d)) $$ [Hb H6 H7]
  · isplitl [Hb]; · iexact Hb
    rw [held_pair, V6_v6, V6_v7]
    isplitl [H6]; · iexact H6
    iexact H7
  iintro ⟨Hb, Hheld⟩
  ihave Hheld := (Entails.of_eq (held_pair (F := F) d _)) $$ Hheld
  rw [V6R_v7]
  icases Hheld with ⟨-, H7⟩
  rw [wp_ret]; imodintro; imodintro
  isplitl [HO Hst]
  · iapply (Entails.of_eq (tcSt_eq d 1).symm)
    isplitl [HO]; · iexact HO
    iexact Hst
  isplitr [Hb Hts]
  · isplitl [Hx]; · iexact Hx
    isplitl [Ha]; · iexact Ha
    isplitl [Hbb]; · iexact Hbb
    iexact H7
  isplitl [Hb] <;> iassumption

/-! ## The run -/

def fq (d : Dev nD) (s' : Phys nD τ sig (Elt F)) : Prop :=
  s'.mem.mem (xLoc d) = m (xLoc d) ∧ s'.mem.mem (aLoc d) = m (aLoc d) ∧ s'.mem.mem (bLoc d) = m (bLoc d)
    ∧ s'.mem.mem (sLoc d) = (fun _ => ansOf m d : Vec F S_ .f32)

theorem hfin (d : Dev nD) (s' : Phys nD τ sig (Elt F)) : iprop(FIN m d ∗ SI s') ⊢ (⌜fq m d s'⌝ : sProp 𝕄) := by
  iintro ⟨⟨Hx, Ha, Hb, Hs⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := aLoc d) (I := Finset.univ) (q := Transfers.shareDrop fullShare 2) (f := m (aLoc d)))) $$ [HSI Ha]
  · isplitl [HSI] <;> iassumption
  icases H with ⟨%h2, HSI, -⟩
  ihave H := (persistent_entails_right (SI_pointsTo_agree (st := s') (ℓ := bLoc d) (I := Finset.univ) (q := Transfers.shareDrop fullShare 2) (f := m (bLoc d)))) $$ [HSI Hb]
  · isplitl [HSI] <;> iassumption
  icases H with ⟨%h3, HSI, -⟩
  ihave H := (SI_pointsTo_agree (st := s') (ℓ := sLoc d) (I := Finset.univ) (q := fullShare) (f := (fun _ => ansOf m d : Vec F S_ .f32))) $$ [HSI Hs]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

/-- What a run ends with: the arguments as they were, the result at its value, every semaphore at zero. -/
def QC : PUnit × MemSt nD τ sig (Elt F) → Prop := fun r =>
  (∀ c : Dev nD, r.2.mem (xLoc c) = m (xLoc c) ∧ r.2.mem (aLoc c) = m (aLoc c) ∧ r.2.mem (bLoc c) = m (bLoc c)
    ∧ r.2.mem (sLoc c) = (fun _ => ansOf m c : Vec F S_ .f32)) ∧ r.2.sem = fun _ => 0

/-- Every run of the program, from edges that name nodes and clauses there are. -/
theorem run_main [∀ e, Nonempty (Elt F e)] (hA : EdgesOk (edgesA m)) (hB : EdgesOk (edgesB m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱p) (EH := EH) (P := PM m) (A := ∅) facts v₀
    (fun q hq => match q with | 0 => nomatch hq)
    (fun q _ => match q with | 0 => tileObl (edgesA m) (edgesB m) (wordsOf m) hA hB)
    (fun q _ => match q with | 0 => SparseCore.Cfg.VecSplit.of_plain (vecSplit (edgesA m) (edgesB m) (wordsOf m)))
    m ρ main (pipesG (F := F)) (FIN m) (u₀ (F := F)) (sep_elim_left.trans (hu₀ (edgesA m) (edgesB m) (wordsOf m))) (hmain m ρ) (fq m) (hfin m) (QC m) (fun _ h hz => ⟨h, hz⟩)

end Cert.Proof.Hist
-- ==== Proof.Pre.lean ====
/-
  What the preconditions say: every node value is at least zero and below one (for the equality only), and every word of the two edge arrays, read as a
  natural number, is below a hundred thousand.
-/
module

public import proofs.«01_k».proof.Proof.Gen.Pre_in_range
public import proofs.«01_k».proof.Proof.Gen.Pre_edges_in_range
public import Idealize.ShloMosaic.Lib.ReduceAll
public import Idealize.ShloMosaic.Lib.Affine

@[expose] public section

noncomputable section

namespace Cert.Proof.Hist.Pre

open Idealize.ShloMosaic Cert.Pre_in_range Cert.Pre_in_range.Gen

variable {F : FTy → Type} [FloatOps F]

/-- A word that is at least zero and below the bound as a signed number is below it as a natural number. -/
theorem word_lt (v : BitVec 32) (h0 : IntOp.cmpi .sge v 0#32 = 1#1) (h1 : IntOp.cmpi .slt v 100000#32 = 1#1) : v.toNat < 100000 := by
  have e0 := IntOp.cmpi_sge.1 h0
  have e1 := IntOp.cmpi_slt.1 h1
  simp only [BitVec.toInt_eq_toNat_cond, BitVec.toNat_ofNat, Nat.reducePow, Nat.reduceMod] at e0 e1
  have := v.isLt
  omega

/-- The frames' precondition, opened. -/
theorem edges_in_range (x : FVec F S100000 .f32) (a b : IVec S2x3200000 32) (h : Cert.Pre_edges_in_range.fn (F := F) x a b = fun _ => 1#1) :
    (∀ i, (a i).toNat < 100000) ∧ ∀ i, (b i).toNat < 100000 := by
  have j : S_.Idx := fun k => k.elim0
  haveI : Subsingleton S_.Idx := ⟨fun p q => funext fun k => k.elim0⟩
  have e := congrFun h j
  unfold Cert.Pre_edges_in_range.fn at e
  dsimp only at e
  obtain ⟨e, e4⟩ := IntOp.andi_eq_one.1 (show IntOp.andi _ _ = 1#1 from e)
  obtain ⟨e, e3⟩ := IntOp.andi_eq_one.1 (show IntOp.andi _ _ = 1#1 from e)
  obtain ⟨e1, e2⟩ := IntOp.andi_eq_one.1 (show IntOp.andi _ _ = 1#1 from e)
  exact ⟨fun i => word_lt _ (Host.reduce_andi_all _ _ _ _ j e1 i) (Host.reduce_andi_all _ _ _ _ j e2 i),
    fun i => word_lt _ (Host.reduce_andi_all _ _ _ _ j e3 i) (Host.reduce_andi_all _ _ _ _ j e4 i)⟩

/-- The equality's precondition, opened. -/
theorem in_range (x : FVec F S100000 .f32) (a b : IVec S2x3200000 32) (h : Cert.Pre_in_range.fn (F := F) x a b = fun _ => 1#1) :
    (∀ n, FloatOps.cmpf .oge (x n) (FloatOps.ofBits .f32 0x00000000#32) = 1#1 ∧ FloatOps.cmpf .olt (x n) (FloatOps.ofBits .f32 0x3F800000#32) = 1#1)
      ∧ (∀ i, (a i).toNat < 100000) ∧ ∀ i, (b i).toNat < 100000 := by
  have j : S_.Idx := fun k => k.elim0
  haveI : Subsingleton S_.Idx := ⟨fun p q => funext fun k => k.elim0⟩
  have e := congrFun h j
  unfold Cert.Pre_in_range.fn Cert.Pre_in_range.fn_part1 at e
  dsimp only at e
  obtain ⟨e, e6⟩ := IntOp.andi_eq_one.1 (show IntOp.andi _ _ = 1#1 from e)
  obtain ⟨e, e5⟩ := IntOp.andi_eq_one.1 (show IntOp.andi _ _ = 1#1 from e)
  obtain ⟨e, e4⟩ := IntOp.andi_eq_one.1 (show IntOp.andi _ _ = 1#1 from e)
  obtain ⟨e, e3⟩ := IntOp.andi_eq_one.1 (show IntOp.andi _ _ = 1#1 from e)
  obtain ⟨e1, e2⟩ := IntOp.andi_eq_one.1 (show IntOp.andi _ _ = 1#1 from e)
  refine ⟨fun n => ⟨Host.reduce_andi_all _ _ _ _ j e1 n, Host.reduce_andi_all _ _ _ _ j e2 n⟩,
    fun i => word_lt _ (Host.reduce_andi_all _ _ _ _ j e3 i) (Host.reduce_andi_all _ _ _ _ j e4 i),
    fun i => word_lt _ (Host.reduce_andi_all _ _ _ _ j e5 i) (Host.reduce_andi_all _ _ _ _ j e6 i)⟩

end Cert.Proof.Hist.Pre

end
-- ==== Proof.Frames.lean ====
/-
  The frames: the program's run, at each reading of its floats, and the reference's, read at the arguments and the counters.
-/
module

public import proofs.«01_k».proof.Defs
public import proofs.«01_k».proof.Proof.Main
public import proofs.«01_k».proof.Proof.Pre
public import proofs.«01_k».proof.Proof.Gen.Kernel
public import proofs.«01_k».proof.Proof.Gen.ReferenceIdeal.Run

@[expose] public section

noncomputable section

namespace Cert.Proof

open Idealize.ShloMosaic Idealize.SL.Sem
open Cert.Kernel.Gen Cert.KernelIdeal.Gen

/-- Edges below the bound at every place are edges below it wherever a tile reads. -/
theorem edgesOk_of (A : Dev Cert.KernelIdeal.nD → Cert.KernelIdeal.S2x3200000.Idx → BitVec 32) (h : ∀ d i, (A d i).toNat < 100000) : Hist.EdgesOk A := by
  intro d r k
  unfold Hist.at2
  split
  · exact h d _
  · decide

/-! ## The kernel's text and its idealization's are one -/

section SameText

variable {F : FTy → Type} [FloatOps F]

theorem pack_eq : Cert.Kernel.cc0__pack_body (F := F) = Cert.KernelIdeal.cc0__pack_body (F := F) := rfl
theorem hist_eq : Cert.Kernel.cc1__hist_body (F := F) = Cert.KernelIdeal.cc1__hist_body (F := F) := rfl
theorem reduce_eq : Cert.Kernel.cc2__reduce_body (F := F) = Cert.KernelIdeal.cc2__reduce_body (F := F) := rfl

/-- The two body tables agree at every processor and label. -/
theorem bodies_eq (p : Proc Cert.KernelIdeal.τ) (l : Cert.KernelIdeal.Λ₀.Label) (a : Cert.KernelIdeal.Λ₀.Args l) :
    Cert.Kernel.defs₀ (F := F) p l a = Cert.KernelIdeal.defs₀ (F := F) p l a := by
  match p, l, a with
  | .tc, 0, (t, s) => exact rfl
  | .tc, 1, _ => exact rfl
  | .tc, 2, (t, s) => exact rfl
  | .scVector c s, 0, _ => exact rfl
  | .scVector c s, 1, _ => exact rfl
  | .scVector c s, 2, _ => exact rfl
  | .scScalar c, 0, _ => exact rfl
  | .scScalar c, 1, _ => exact rfl
  | .scScalar c, 2, _ => exact rfl

set_option maxHeartbeats 4000000 in
theorem table_eq : Cert.Kernel.defs (F := F) = Cert.KernelIdeal.defs (F := F) :=
  congrArg (fun d => Cert.KernelIdeal.sc.defs (Pipeline.defs Cert.KernelIdeal.pcfgs d)) (funext fun p => funext fun l => funext fun a => bodies_eq p l a)

set_option maxHeartbeats 4000000 in
theorem main_eq : Cert.Kernel.main (F := F) = Cert.KernelIdeal.main (F := F) := rfl

/-- A run of the one is a run of the other. -/
theorem run_of_eq {d : Defs Cert.KernelIdeal.nD Cert.KernelIdeal.τ Cert.KernelIdeal.sig (Elt F) (SparseCore.Sig (Pipeline.Sig Cert.KernelIdeal.Λ₀ (Fin 2) fun p => (Cert.KernelIdeal.pcfgs (F := F) p).Adm) 1)}
    {mn : Dev Cert.KernelIdeal.nD → Prog (TpuEff Cert.KernelIdeal.nD Cert.KernelIdeal.τ Cert.KernelIdeal.sig (Elt F) (SparseCore.Sig (Pipeline.Sig Cert.KernelIdeal.Λ₀ (Fin 2) fun p => (Cert.KernelIdeal.pcfgs (F := F) p).Adm) 1) .tc) PUnit}
    (hd : d = Cert.KernelIdeal.defs (F := F)) (hm : mn = Cert.KernelIdeal.main (F := F)) (σ : MemSt Cert.KernelIdeal.nD Cert.KernelIdeal.τ Cert.KernelIdeal.sig (Elt F))
    (Q : PUnit × MemSt Cert.KernelIdeal.nD Cert.KernelIdeal.τ Cert.KernelIdeal.sig (Elt F) → Prop)
    (h : θ_run (Cert.KernelIdeal.defs (F := F)) (Cert.KernelIdeal.threads (F := F)) σ Q) : θ_run d (Cert.KernelIdeal.sc.threads mn) σ Q := by
  subst hd; subst hm; exact h

end SameText

theorem frame_kernel : Cert.quiescent_Kernel (hKernel := Cert.Kernel.Gen.facts) (hPre_edges_in_range := Cert.Pre_edges_in_range.Gen.facts) := fun m ρ hpre =>
  run_of_eq table_eq main_eq _ _ ((θ_run (Cert.KernelIdeal.defs (F := Bits)) _ _).mono (fun _ h => ⟨fun c => ⟨(h.1 c).1, (h.1 c).2.1, (h.1 c).2.2.1⟩, h.2⟩)
    (Hist.run_main (F := Bits) m ρ (edgesOk_of _ fun d => (Hist.Pre.edges_in_range (F := Bits) _ _ _ (hpre d)).1)
      (edgesOk_of _ fun d => (Hist.Pre.edges_in_range (F := Bits) _ _ _ (hpre d)).2)))

/-- The idealization's frame, from the edges' ranges alone. -/
theorem frame_ideal (m : (ℓ : Loc Cert.KernelIdeal.nD Cert.KernelIdeal.τ Cert.KernelIdeal.sig) → Buf (Elt Ideal) ℓ) (ρ : Dev Cert.KernelIdeal.nD → PrngReg)
    (hA : Hist.EdgesOk (Hist.edgesA m)) (hB : Hist.EdgesOk (Hist.edgesB m)) :
    θ_run (Cert.KernelIdeal.defs (F := Ideal)) (Cert.KernelIdeal.threads (F := Ideal)) ⟨m, fun _ => 0, ρ⟩ fun r =>
      (∀ c, r.2.mem (Hist.xLoc c) = m (Hist.xLoc c) ∧ r.2.mem (Hist.aLoc c) = m (Hist.aLoc c) ∧ r.2.mem (Hist.bLoc c) = m (Hist.bLoc c)) ∧ r.2.sem = fun _ => 0 :=
  (θ_run (Cert.KernelIdeal.defs (F := Ideal)) _ _).mono (fun _ h => ⟨fun c => ⟨(h.1 c).1, (h.1 c).2.1, (h.1 c).2.2.1⟩, h.2⟩)
    (Hist.run_main (F := Ideal) m ρ hA hB)

theorem frame_kernelIdeal : Cert.quiescent_KernelIdeal (hKernelIdeal := Cert.KernelIdeal.Gen.facts) (hPre_edges_in_range := Cert.Pre_edges_in_range.Gen.facts) :=
  fun m ρ hpre => frame_ideal m ρ (edgesOk_of _ fun d => (Hist.Pre.edges_in_range (F := Ideal) _ _ _ (hpre d)).1)
    (edgesOk_of _ fun d => (Hist.Pre.edges_in_range (F := Ideal) _ _ _ (hpre d)).2)

theorem frame_kernelIdeal_in_range : Cert.quiescent_KernelIdeal_pre_in_range (hKernelIdeal := Cert.KernelIdeal.Gen.facts) (hPre_in_range := Cert.Pre_in_range.Gen.facts) :=
  fun m ρ hpre => frame_ideal m ρ (edgesOk_of _ fun d => (Hist.Pre.in_range (F := Ideal) _ _ _ (hpre d)).2.1)
    (edgesOk_of _ fun d => (Hist.Pre.in_range (F := Ideal) _ _ _ (hpre d)).2.2)

theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

end Cert.Proof

end
-- ==== Proof.Bits.lean ====
/-
  The packed words: bit `n % 32` of word `n / 32` says whether node `n`'s value is at least one half.
-/
module

public import proofs.«01_k».proof.Proof.Main
public import Idealize.ShloMosaic.PureOps.Reduce

@[expose] public section

noncomputable section

namespace Cert.Proof.Hist

open Idealize.ShloMosaic Cert.KernelIdeal Cert.KernelIdeal.Gen
open Finset (range)

/-- A sum of distinct powers of two has just their bits. -/
theorem getLsbD_sum_bits (p : ℕ → Bool) (n : ℕ) (hn : n ≤ 32) (i : ℕ) (hi : i < 32) :
    (∑ r ∈ range n, if p r = true then 1#32 <<< r else 0#32 : BitVec 32).getLsbD i = (decide (i < n) && p i) := by
  induction n generalizing i with
  | zero => simp
  | succ n ih =>
    have ih' := ih (by omega)
    rw [Finset.sum_range_succ]
    cases hp : p n with
    | false =>
      rw [if_neg (by simp)]
      rw [show (∑ r ∈ range n, if p r = true then 1#32 <<< r else 0#32 : BitVec 32) + 0#32 = ∑ r ∈ range n, if p r = true then 1#32 <<< r else 0#32 from add_zero _, ih' i hi]
      by_cases h : i = n
      · subst h; simp [hp]
      · rw [show decide (i < n + 1) = decide (i < n) from by congr 1; exact propext ⟨fun _ => by omega, fun _ => by omega⟩]
    | true =>
      rw [if_pos rfl, BitVec.add_eq_or_of_and_eq_zero]
      · rw [BitVec.getLsbD_or, ih' i hi, BitVec.getLsbD_shiftLeft]
        by_cases h : i = n
        · subst h; simp [hp, hi]
        · rcases Nat.lt_or_ge i n with h1 | h1
          · simp [h1, show i < n + 1 by omega]
          · have h2 : ¬ i - n = 0 := by omega
            simp [show ¬ i < n by omega, show ¬ i < n + 1 by omega, h2]
      · ext j hj
        rw [← BitVec.getLsbD_eq_getElem, ← BitVec.getLsbD_eq_getElem, BitVec.getLsbD_and, ih' j hj, BitVec.getLsbD_shiftLeft]
        rcases Nat.lt_or_ge j n with h1 | h1
        · simp [h1]
        · simp [show ¬ j < n by omega]

/-! ## Places in row-major order -/

theorem rm_vec {n : ℕ} (j : Fin n) : ((⟨1, ![n]⟩ : Shape).rowMajor (ix1 j)).val = j.val := Shape.rowMajor_val_one _
theorem rm_mat {r n : ℕ} (i : Fin r) (j : Fin n) : ((⟨2, ![r, n]⟩ : Shape).rowMajor (ix2 i j)).val = i.val * n + j.val := Shape.rowMajor_val_two _
theorem rm_row {n : ℕ} (j : Fin n) : ((⟨2, ![1, n]⟩ : Shape).rowMajor (ix2 (0 : Fin 1) j)).val = j.val := by
  rw [rm_mat]; show 0 * n + j.val = j.val; rw [Nat.zero_mul, Nat.zero_add]

/-- One row of length `n` read as a vector. -/
theorem cast_row {α : Type} {n : ℕ} (x : (⟨2, ![1, n]⟩ : Shape).Idx → α) (h : (⟨2, ![1, n]⟩ : Shape).ShapeCasts ⟨1, ![n]⟩) (j : Fin n) :
    shapeCast ⟨1, ![n]⟩ x h (ix1 j) = x (ix2 0 j) :=
  shapeCast_apply x h (ix1 j) (ix2 0 j) ((rm_row j).trans (rm_vec j).symm)
/-- A vector read as one row. -/
theorem cast_vec {α : Type} {n : ℕ} (x : (⟨1, ![n]⟩ : Shape).Idx → α) (h : (⟨1, ![n]⟩ : Shape).ShapeCasts ⟨2, ![1, n]⟩) (j : Fin n) :
    shapeCast ⟨2, ![1, n]⟩ x h (ix2 0 j) = x (ix1 j) :=
  shapeCast_apply x h (ix2 0 j) (ix1 j) ((rm_vec j).trans (rm_row j).symm)

/-- The first of two joined vectors. -/
theorem join_left {α : Type} {n k t : ℕ} (x : (⟨1, ![n]⟩ : Shape).Idx → α) (y : (⟨1, ![k]⟩ : Shape).Idx → α)
    (h : Shape.Concatenates [⟨1, ![n]⟩, ⟨1, ![k]⟩] ⟨1, ![t]⟩ 0) (j : Fin t) (i : Fin n) (hi : i.val = j.val) :
    concatenate ⟨1, ![t]⟩ 0 [⟨⟨1, ![n]⟩, x⟩, ⟨⟨1, ![k]⟩, y⟩] h (ix1 j) = x (ix1 i) :=
  concatenate_pair_apply_left 0 x y h (ix1 j) rfl (ix1 i) fun b => by fin_cases b; exact hi
/-- The second of two joined vectors. -/
theorem join_right {α : Type} {n k t : ℕ} (x : (⟨1, ![n]⟩ : Shape).Idx → α) (y : (⟨1, ![k]⟩ : Shape).Idx → α)
    (h : Shape.Concatenates [⟨1, ![n]⟩, ⟨1, ![k]⟩] ⟨1, ![t]⟩ 0) (j : Fin t) (i : Fin k) (hi : i.val + n = j.val) :
    concatenate ⟨1, ![t]⟩ 0 [⟨⟨1, ![n]⟩, x⟩, ⟨⟨1, ![k]⟩, y⟩] h (ix1 j) = y (ix1 i) :=
  concatenate_pair_apply_right 0 x y h (ix1 j) rfl rfl (ix1 i) (fun b hb => by fin_cases b; exact absurd rfl hb) hi

variable {F : FTy → Type} [FloatOps F]

/-- Row `r`, column `j` of the padded node values is node `32 * j + r`. -/
theorem nodeRows_apply (xv : S100000.Idx → F .f32) (r : Fin 32) (j : Fin 3136) (n : Fin 100000) (h : n.val = 32 * j.val + r.val) :
    nodeRows xv (ix2 r j) = xv (ix1 n) := by
  have hk : n.val < 100352 := by omega
  unfold nodeRows
  refine (transpose_apply [1, 0] _ _ (ix2 r j) (ix2 j r) (fun b => by fin_cases b <;> rfl)).trans ?_
  refine (shapeCast_apply _ _ (ix2 j r) (ix1 (⟨n.val, hk⟩ : Fin 100352)) ?_).trans ?_
  · rw [rm_vec, rm_mat]; show n.val = j.val * 32 + r.val; omega
  · exact join_left _ _ _ _ n rfl

/-- Whether node `n`'s value is at least one half. -/
def bitOf (xv : S100000.Idx → F .f32) (n : ℕ) : Bool :=
  if h : n < 100000 then FloatOps.cmpf .oge (xv (ix1 ⟨n, h⟩)) (Scalar.ofBits .f32 0x3F000000#32) == 1#1 else false

/-- A packed word is the sum of its nodes' powers of two. -/
theorem pack_apply (X : S32x3136.Idx → F .f32) (j : Fin 3136) :
    (k0_pay1 (F := F) (X : Vec F S32x3136 .f32) : S1x3136.Idx → BitVec 32) (ix2 0 j)
      = ∑ r : Fin 32, if FloatOps.cmpf .oge (X (ix2 r j)) (Scalar.ofBits .f32 0x3F000000#32) = 1#1 then 1#32 <<< r.val else 0#32 := by
  unfold k0_pay1
  dsimp only
  refine (cast_vec _ _ j).trans ?_
  refine (congrFun (multiReductionI_eq_reduceFold .add _ _ _ rfl) _).trans ?_
  refine (reduceFold_add_eq_sum (α := BitVec 32) _ _ _ _).trans ?_
  rw [Shape.Reduces.sum_filter_drop_single]
  refine (zero_add _).trans (Finset.sum_congr rfl fun r _ => ?_)
  have e : Shape.Reduces.lift (a := 0) reduces_S32x3136_S3136 (ix1 j) r = (ix2 (r : Fin 32) j : S32x3136.Idx) := by
    funext a; apply Fin.ext; fin_cases a <;> rfl
  rw [e, shapeCast_self]
  unfold select
  show (if FloatOps.cmpf .oge (X (ix2 (r : Fin 32) j)) (Scalar.ofBits .f32 0x3F000000#32) = 1#1 then IntOp.shli .vector 1#32 (iota .tc S32x3136 32 [0] _ (ix2 (r : Fin 32) j)) else 0#32) = _
  rw [iota_single_apply]
  have hr : (r : Fin 32).val < 32 := (r : Fin 32).isLt
  have e2 : IntOp.shli .vector 1#32 (BitVec.ofNat 32 ((ix2 (r : Fin 32) j : S32x3136.Idx) 0).val) = 1#32 <<< (r : Fin 32).val := by
    have e3 : (BitVec.ofNat 32 ((ix2 (r : Fin 32) j : S32x3136.Idx) 0).val).toNat = (r : Fin 32).val := by
      rw [BitVec.toNat_ofNat]; exact Nat.mod_eq_of_lt (by show (r : Fin 32).val < _; omega)
    unfold IntOp.shli
    rw [e3, if_pos hr, BitVec.shiftLeft_eq', e3]
  rw [e2]

omit [FloatOps F] in
theorem pkRead_apply (w : S1x3136.Idx → BitVec 32) (j : Fin 3136) : pkRead (F := F) w (ix1 j) = w (ix2 0 j) := by
  unfold pkRead
  refine congrArg w (?_ : _ = (ix2 0 j : S1x3136.Idx))
  show (Rect.unit (s := S1x3136) ![0, 0] S1x3136.size inb_S1x3136_S1x3136_0_0).emb (Shape.reshapeEquiv _ (ix1 j)) = _
  rw [Shape.reshapeEquiv_eq_of_rowMajor (y := (ix2 0 j : S1x3136.Idx)) _ ((rm_row j).trans (rm_vec j).symm)]
  funext a; apply Fin.ext
  rw [Rect.emb_apply]
  fin_cases a
  · rfl
  · show 0 + 1 * j.val = j.val; omega

/-- The packed word's bit, as the tiles look it up. -/
theorem word_bit (xv : S100000.Idx → F .f32) (n : ℕ) (h : n < 100000) :
    (at1 (pkRead (F := F) (k0_pay1 (nodeRows xv : Vec F S32x3136 .f32) : Vec F S1x3136 .i32)) (n / 32)).getLsbD (n % 32) = bitOf xv n := by
  have hj : n / 32 < 3136 := by omega
  have hr : n % 32 < 32 := Nat.mod_lt _ (by decide)
  unfold at1
  rw [dif_pos hj, pkRead_apply, pack_apply]
  have e : (∑ r : Fin 32, if FloatOps.cmpf .oge (nodeRows xv (ix2 r ⟨n / 32, hj⟩)) (Scalar.ofBits .f32 0x3F000000#32) = 1#1 then 1#32 <<< r.val else 0#32 : BitVec 32)
      = ∑ r ∈ range 32, if (if hr : r < 32 then FloatOps.cmpf .oge (nodeRows xv (ix2 (⟨r, hr⟩ : Fin 32) ⟨n / 32, hj⟩)) (Scalar.ofBits .f32 0x3F000000#32) == 1#1 else false) = true then 1#32 <<< r else 0#32 := by
    rw [Finset.sum_range]
    refine Finset.sum_congr rfl fun r _ => ?_
    rw [dif_pos r.isLt]
    simp only [beq_iff_eq]
  rw [e, getLsbD_sum_bits _ 32 le_rfl _ hr, dif_pos hr, decide_eq_true hr, Bool.true_and]
  unfold bitOf
  rw [dif_pos h, nodeRows_apply xv ⟨n % 32, hr⟩ ⟨n / 32, hj⟩ ⟨n, h⟩ (by show n = 32 * (n / 32) + n % 32; omega)]

omit [FloatOps F] in
theorem bit_one (v : BitVec 32) (i : ℕ) : ((v >>> i) &&& 1#32 = 1#32) ↔ v.getLsbD i = true := by
  rw [BitVec.and_one_eq_setWidth_ofBool_getLsbD, BitVec.getLsbD_ushiftRight, add_zero]
  cases v.getLsbD i <;> decide
omit [FloatOps F] in
theorem bit_zero (v : BitVec 32) (i : ℕ) : ((v >>> i) &&& 1#32 = 0#32) ↔ v.getLsbD i = false := by
  rw [BitVec.and_one_eq_setWidth_ofBool_getLsbD, BitVec.getLsbD_ushiftRight, add_zero]
  cases v.getLsbD i <;> decide

variable (m : (ℓ : Loc nD τ sig) → Buf (Elt F) ℓ)

theorem hit_one (d : Dev nD) (v : BitVec 32) (h : v.toNat < 100000) :
    Hit (at1 (pkRead (F := F) (wordsOf m d))) 1#32 v ↔ bitOf (F := F) (m (xLoc d)) v.toNat = true := by
  rw [← word_bit _ _ h]; exact bit_one _ _
theorem hit_zero (d : Dev nD) (v : BitVec 32) (h : v.toNat < 100000) :
    Hit (at1 (pkRead (F := F) (wordsOf m d))) 0#32 v ↔ bitOf (F := F) (m (xLoc d)) v.toNat = false := by
  rw [← word_bit _ _ h]; exact bit_zero _ _

end Cert.Proof.Hist

end
-- ==== Proof.Count.lean ====
/-
  What the tiles' histograms sum to: the number of edges of a clause whose node's bit is the wanted one. A tile takes every
  32nd chunk of 2560 edges; over the 32 tiles that is every edge once.
-/
module

public import proofs.«01_k».proof.Proof.Calls

@[expose] public section

noncomputable section

namespace Cert.Proof.Hist

open Idealize.ShloMosaic Cert.KernelIdeal
open Finset (range)

/-- The edges `k` with clause `x` whose node satisfies `b`. -/
def votes (b : ℕ → Bool) (A : S2x3200000.Idx → BitVec 32) (x : ℕ) : ℕ :=
  ∑ k ∈ range 3200000, if (at2 A 0 k).toNat = x ∧ b (at2 A 1 k).toNat = true then 1 else 0

/-- The satisfied literals of clause `x`: its positive edges to set nodes and its negative edges to clear ones. -/
def count (b : ℕ → Bool) (A B : S2x3200000.Idx → BitVec 32) (x : ℕ) : ℕ := votes b A x + votes (fun n => !b n) B x

theorem votes_le (b : ℕ → Bool) (A : S2x3200000.Idx → BitVec 32) (x : ℕ) : votes b A x ≤ 3200000 := by
  unfold votes
  calc _ ≤ ∑ k ∈ range 3200000, 1 := Finset.sum_le_sum fun k _ => by split <;> omega
    _ = 3200000 := by rw [Finset.sum_const, Finset.card_range]; rfl

theorem count_le (b : ℕ → Bool) (A B : S2x3200000.Idx → BitVec 32) (x : ℕ) : count b A B x ≤ 6400000 := by
  have h1 := votes_le b A x
  have h2 := votes_le (fun n => !b n) B x
  unfold count; omega

/-- A sum over `a` blocks of `n` is the sum over all. -/
theorem sum_blocks {M : Type} [AddCommMonoid M] (f : ℕ → M) (n a : ℕ) :
    ∑ c ∈ range a, ∑ j ∈ range n, f (n * c + j) = ∑ k ∈ range (n * a), f k := by
  induction a with
  | zero => simp
  | succ a ih => rw [Finset.sum_range_succ, ih, Nat.mul_succ, Finset.sum_range_add]

/-- The chunks of the 32 tiles are the 1250 chunks. -/
theorem sum_chunks {M : Type} [AddCommMonoid M] (f : ℕ → M) :
    ∑ t ∈ range 32, ∑ n ∈ range (39 + if t < 2 then 1 else 0), f (t + 32 * n) = ∑ c ∈ range 1250, f c := by
  have h1 : ∀ t ∈ range 32, ∑ n ∈ range (39 + if t < 2 then 1 else 0), f (t + 32 * n)
      = (∑ n ∈ range 39, f (32 * n + t)) + (if t < 2 then f (1248 + t) else 0) := by
    intro t _
    by_cases ht : t < 2
    · rw [if_pos ht, if_pos ht, Finset.sum_range_succ]
      refine congrArg₂ (· + ·) (Finset.sum_congr rfl fun n _ => by rw [add_comm]) (by rw [add_comm])
    · rw [if_neg ht, if_neg ht, add_zero, add_zero]
      exact Finset.sum_congr rfl fun n _ => by rw [add_comm]
  rw [Finset.sum_congr rfl h1, Finset.sum_add_distrib, Finset.sum_comm, sum_blocks f 32 39, ← Finset.sum_filter]
  have h2 : (range 32).filter (fun t => t < 2) = range 2 := by decide
  rw [h2]
  exact (Finset.sum_range_add f 1248 2).symm

theorem widOf_tileAt {t : ℕ} (ht : t < 32) : widOf (tileAt t) = t := by
  show 2 * (t / 2 % 16) + t % 2 = t
  omega

/-- The entry `x` over the 32 tiles. -/
theorem sum_tiles (w : ℕ → BitVec 32) (A B : S2x3200000.Idx → BitVec 32) (x : ℕ) :
    ∑ t ∈ range 32, tileSum w A B (tileAt t) x
      = (∑ k ∈ range 3200000, inc w 1#32 (at2 A 0 k) (at2 A 1 k) x) + ∑ k ∈ range 3200000, inc w 0#32 (at2 B 0 k) (at2 B 1 k) x := by
  have key : ∀ (m : BitVec 32) (C : S2x3200000.Idx → BitVec 32),
      ∑ t ∈ range 32, ∑ n ∈ range (nkOf (tileAt t)), chunkSum w m C (widOf (tileAt t) + 32 * n) x
        = ∑ k ∈ range 3200000, inc w m (at2 C 0 k) (at2 C 1 k) x := by
    intro m C
    have e : ∀ t ∈ range 32, ∑ n ∈ range (nkOf (tileAt t)), chunkSum w m C (widOf (tileAt t) + 32 * n) x
        = ∑ n ∈ range (39 + if t < 2 then 1 else 0), chunkSum w m C (t + 32 * n) x := fun t ht => by
      unfold nkOf
      rw [widOf_tileAt (Finset.mem_range.1 ht)]
    rw [Finset.sum_congr rfl e, sum_chunks fun c => chunkSum w m C c x]
    exact sum_blocks (fun k => inc w m (at2 C 0 k) (at2 C 1 k) x) 2560 1250
  unfold tileSum
  rw [Finset.sum_add_distrib, key, key]

/-- The steps of the edges with the wanted bit, summed as words, are their number. -/
theorem sum_inc (w : ℕ → BitVec 32) (m : BitVec 32) (b : ℕ → Bool) (C : S2x3200000.Idx → BitVec 32) (x : ℕ)
    (hw : ∀ k < 3200000, Hit w m (at2 C 1 k) ↔ b (at2 C 1 k).toNat = true) :
    ∑ k ∈ range 3200000, inc w m (at2 C 0 k) (at2 C 1 k) x = BitVec.ofNat 32 (votes b C x) := by
  have : ((votes b C x : ℕ) : BitVec 32) = ∑ k ∈ range 3200000, inc w m (at2 C 0 k) (at2 C 1 k) x := by
    unfold votes
    rw [Nat.cast_sum]
    refine Finset.sum_congr rfl fun k hk => ?_
    unfold inc
    have h := hw k (Finset.mem_range.1 hk)
    by_cases hc : (at2 C 0 k).toNat = x ∧ b (at2 C 1 k).toNat = true
    · rw [if_pos hc, if_pos ⟨hc.1, h.2 hc.2⟩]; rfl
    · rw [if_neg hc, if_neg fun hh => hc ⟨hh.1, h.1 hh.2⟩]; rfl
  exact this.symm

/-- The histograms' sum at a clause is the count of its satisfied literals. -/
theorem sum_hists (w : ℕ → BitVec 32) (b : ℕ → Bool) (A B : S2x3200000.Idx → BitVec 32) (x : ℕ)
    (hA : ∀ k < 3200000, Hit w 1#32 (at2 A 1 k) ↔ b (at2 A 1 k).toNat = true)
    (hB : ∀ k < 3200000, Hit w 0#32 (at2 B 1 k) ↔ b (at2 B 1 k).toNat = false) :
    ∑ t ∈ range 32, tileSum w A B (tileAt t) x = BitVec.ofNat 32 (count b A B x) := by
  rw [sum_tiles, sum_inc w 1#32 b A x hA, sum_inc w 0#32 (fun n => !b n) B x fun k hk => (hB k hk).trans (by simp)]
  unfold count
  exact (BitVec.ofNat_add _ _).symm

end Cert.Proof.Hist

end
-- ==== Proof.Least.lean ====
/-
  The last TensorCore call: the thirty-two histograms added up, and the least entry of the sum below 100000.
-/
module

public import proofs.«01_k».proof.Proof.Bits
public import proofs.«01_k».proof.Proof.Count

@[expose] public section

noncomputable section

namespace Cert.Proof.Hist

open Idealize.ShloMosaic Cert.KernelIdeal Cert.KernelIdeal.Gen
open Finset (range)

variable {F : FTy → Type} [FloatOps F]

/-! ## The sum -/

theorem pay2_apply (v0 v1 v2 v3 v4 v5 v6 v7 v8 v9 v10 v11 v12 v13 v14 : S100352.Idx → BitVec 32) (x : S100352.Idx) :
    k2_pay2 (F := F) v0 v1 v2 v3 v4 v5 v6 v7 v8 v9 v10 v11 v12 v13 v14 x = v0 x + v1 x + v2 x + v3 x + v4 x + v5 x + v6 x + v7 x + v8 x + v9 x + v10 x + v11 x + v12 x + v13 x + v14 x := by
  unfold k2_pay2
  simp only [shapeCast_self]
  rfl

theorem pay3_apply (v0 v1 v2 v3 v4 v5 v6 v7 v8 v9 v10 v11 v12 v13 v14 v15 : S100352.Idx → BitVec 32) (x : S100352.Idx) :
    k2_pay3 (F := F) v0 v1 v2 v3 v4 v5 v6 v7 v8 v9 v10 v11 v12 v13 v14 v15 x = v0 x + v1 x + v2 x + v3 x + v4 x + v5 x + v6 x + v7 x + v8 x + v9 x + v10 x + v11 x + v12 x + v13 x + v14 x + v15 x := by
  unfold k2_pay3
  simp only [shapeCast_self]
  rfl

/-- The sum of the histograms at entry `x`. -/
def total (Y : S3211264.Idx → BitVec 32) (x : ℕ) : BitVec 32 := ∑ k ∈ range 32, at1 Y (100352 * k + x)

/-! ## The least -/

theorem toInt_minsi (a b : BitVec 32) : (IntOp.minsi a b).toInt = min a.toInt b.toInt := by
  unfold IntOp.minsi
  rw [BitVec.slt_eq_decide]
  by_cases h : a.toInt < b.toInt
  · rw [if_pos (decide_eq_true h), min_eq_left h.le]
  · rw [if_neg (by rw [decide_eq_true_eq]; exact h), min_eq_right (not_lt.1 h)]

/-- The signed minimum over a set, from the greatest word, is at most each element and at least one of them. -/
theorem minsi_fold {ι : Type} (S : Finset ι) (f : ι → BitVec 32) (hS : S.Nonempty) :
    (∀ i ∈ S, (S.fold IntOp.minsi 2147483647#32 f).toInt ≤ (f i).toInt) ∧ ∃ i ∈ S, (f i).toInt ≤ (S.fold IntOp.minsi 2147483647#32 f).toInt := by
  have h1 := (Finset.fold_op_rel_iff_and (op := IntOp.minsi (w := 32)) (b := 2147483647#32) (f := f) (s := S) (r := fun a b => a.toInt ≤ b.toInt)
    (fun {x y z} => by rw [toInt_minsi, le_min_iff]) (c := S.fold IntOp.minsi 2147483647#32 f)).1 le_rfl
  have h2 := (Finset.fold_op_rel_iff_or (op := IntOp.minsi (w := 32)) (b := 2147483647#32) (f := f) (s := S) (r := fun a b => b.toInt ≤ a.toInt)
    (fun {x y z} => by rw [toInt_minsi, min_le_iff]) (c := S.fold IntOp.minsi 2147483647#32 f)).1 le_rfl
  refine ⟨h1.2, ?_⟩
  rcases h2 with h2 | h2
  · obtain ⟨i, hi⟩ := hS
    refine ⟨i, hi, le_trans ?_ h2⟩
    have := BitVec.toInt_lt (x := f i)
    show (f i).toInt ≤ 2147483647
    norm_num at this
    omega
  · exact h2

theorem redVal_eq (Y : S3211264.Idx → BitVec 32) : ∃ b : BitVec 32, redVal (F := F) Y = Scalar.sitofp .f32 b
    ∧ (∀ x < 100000, b.toInt ≤ (total Y x).toInt) ∧ ∃ x < 100000, (total Y x).toInt ≤ b.toInt := by
  unfold redVal
  generalize hu : k2_pay3 (F := F) _ (row Y 15) (row Y 16) (row Y 17) (row Y 18) (row Y 19) (row Y 20) (row Y 21) (row Y 22) (row Y 23) (row Y 24) (row Y 25) (row Y 26) (row Y 27) (row Y 28) (row Y 29) = u
  have hux : ∀ x : S100352.Idx, u x + row Y 30 x + row Y 31 x = total Y (x 0).val := by
    intro x
    rw [← hu, pay3_apply, pay2_apply]
    unfold total
    simp only [Finset.sum_range_succ, Finset.sum_range_zero, zero_add]
    rfl
  unfold k2_pay1
  dsimp only
  refine ⟨_, rfl, ?_⟩
  generalize hs : shapeCast S1x100000 _ shapeCasts_S100000_S1x100000 = s
  have hsx : ∀ x : Fin 100000, s (ix2 0 x) = total Y x.val := by
    intro x
    have hx : x.val < 100352 := by have := x.isLt; omega
    rw [← hs]
    refine (cast_vec _ _ x).trans ?_
    refine (extractStridedSlice_apply ![0] _ _ (ix1 x) (ix1 (⟨x.val, hx⟩ : Fin 100352)) fun a => by fin_cases a; exact (Nat.zero_add _).symm).trans ?_
    rw [shapeCast_self, shapeCast_self]
    exact hux (ix1 (⟨x.val, hx⟩ : Fin 100352))
  have hb : extractAt ![0, 0] (shapeCast S1x1 (multiReductionI .minsi [1] S1 s 2147483647#32 reduces_S1x100000_S1 rfl) shapeCasts_S1_S1x1) inpos_S1x1_p0_0
      = (Finset.univ.filter fun i => reduces_S1x100000_S1.drop i = ix1 0).fold IntOp.minsi 2147483647#32 s := by
    refine (cast_vec (n := 1) _ _ 0).trans ?_
    exact multiReductionI_eq_fold .minsi s _ _ rfl (ix1 0)
  rw [show extractAt ![0, 0] (shapeCast S1x1 (multiReductionI .minsi [1] S1 s 2147483647#32 reduces_S1x100000_S1 _) shapeCasts_S1_S1x1) inpos_S1x1_p0_0 = _ from hb]
  have hmem : ∀ i : S1x100000.Idx, i ∈ (Finset.univ.filter fun i => reduces_S1x100000_S1.drop i = (ix1 0 : S1.Idx)) := fun i =>
    Finset.mem_filter.2 ⟨Finset.mem_univ _, by
      funext a
      match a with
      | 0 => exact Subsingleton.elim (α := Fin 1) _ _⟩
  obtain ⟨h1, i, -, h2⟩ := minsi_fold _ s ⟨ix2 0 0, hmem _⟩
  refine ⟨fun x hx => ?_, (i 1).val, (i 1).isLt, ?_⟩
  · have := h1 (ix2 0 ⟨x, hx⟩) (hmem _)
    rw [hsx] at this
    exact this
  · have e : i = ix2 0 (i 1) := by
      funext a
      match a with
      | 0 => exact Subsingleton.elim (α := Fin 1) _ _
      | 1 => rfl
    have e' : s i = total Y (i 1).val := (congrArg s e).trans (hsx (i 1))
    rw [← e']
    exact h2

/-! ## The kernel's result -/

variable (m : (ℓ : Loc nD τ sig) → Buf (Elt F) ℓ)

theorem total_hists (d : Dev nD) (hA : EdgesOk (edgesA m)) (hB : EdgesOk (edgesB m)) (x : ℕ) (hx : x < 100000) :
    total (histsOf m d) x = BitVec.ofNat 32 (count (bitOf (F := F) (m (xLoc d))) (edgesA m d) (edgesB m d) x) := by
  rw [← sum_hists (at1 (pkRead (F := F) (wordsOf m d))) _ _ _ x (fun k _ => hit_one m d _ (hA d 1 k)) (fun k _ => hit_zero m d _ (hB d 1 k))]
  unfold total
  refine Finset.sum_congr rfl fun t ht => ?_
  have ht' := Finset.mem_range.1 ht
  have hk : 100352 * t + x < 3211264 := by omega
  unfold at1
  rw [dif_pos hk]
  unfold histsOf resVal
  have e1 : (100352 * t + x) / 100352 = t := by omega
  have e2 : (100352 * t + x) % 100352 = x := by omega
  show tileSum _ _ _ (tileAt ((100352 * t + x) / 100352)) ((100352 * t + x) % 100352) = _
  rw [e1, e2]
  rfl

theorem toInt_count (b : ℕ → Bool) (A B : S2x3200000.Idx → BitVec 32) (x : ℕ) : (BitVec.ofNat 32 (count b A B x)).toInt = (count b A B x : ℤ) := by
  have h := count_le b A B x
  rw [BitVec.toInt_ofNat']
  exact Int.bmod_eq_of_le (by omega) (by omega)

/-- The result is the count of some clause, and no clause has a lesser one. -/
theorem ansOf_eq (d : Dev nD) (hA : EdgesOk (edgesA m)) (hB : EdgesOk (edgesB m)) :
    ∃ (b : BitVec 32) (x : ℕ), ansOf m d = (Scalar.sitofp .f32 b : F .f32) ∧ x < 100000
      ∧ b.toInt = (count (bitOf (F := F) (m (xLoc d))) (edgesA m d) (edgesB m d) x : ℤ)
      ∧ ∀ y < 100000, count (bitOf (F := F) (m (xLoc d))) (edgesA m d) (edgesB m d) x ≤ count (bitOf (F := F) (m (xLoc d))) (edgesA m d) (edgesB m d) y := by
  obtain ⟨b, hb, h1, x, hx, h2⟩ := redVal_eq (F := F) (histsOf m d)
  have h3 := h1 x hx
  rw [total_hists m d hA hB x hx, toInt_count] at h2 h3
  refine ⟨b, x, hb, hx, le_antisymm h3 h2, fun y hy => ?_⟩
  have h4 := h1 y hy
  rw [total_hists m d hA hB y hy, toInt_count] at h4
  exact_mod_cast h2.trans h4

end Cert.Proof.Hist

end
-- ==== Proof.Segment.lean ====
/-
  The segment sum of two joined lists of edges, entry by entry: how many edges of each list give one to the entry.
-/
module

public import proofs.«01_k».proof.Proof.Count
public import proofs.«01_k».proof.Proof.Bits
public import Idealize.ShloMosaic.PureOps.Ideal.Laws
public import Idealize.ShloMosaic.Lib.Routing.OpsPair
public import Idealize.ShloMosaic.Lib.Routing.OpsSet
public import Idealize.ShloMosaic.Lib.Pointwise.Reduce

@[expose] public section

noncomputable section

namespace Cert.Proof.Ref

open Idealize.ShloMosaic Cert.Proof.Hist
open Finset (range)

/-! ## Layout -/

/-- A vector as a column of one-entry rows. -/
theorem column {α : Type} {n : ℕ} (hn : n ≠ 1) (x : (⟨1, ![n]⟩ : Shape).Idx → α) (h : (⟨1, ![n]⟩ : Shape).BroadcastsInDim ⟨2, ![n, 1]⟩ ![0]) (j : Fin n) :
    broadcastInDim ⟨2, ![n, 1]⟩ ![0] h x (ix2 j 0) = x (ix1 j) :=
  broadcastInDim_apply _ _ _ _ _ fun a => by fin_cases a; exact (if_neg hn).symm

/-- Row `r` of a two-row table, sliced out and read as a vector. -/
theorem row_of_table {n : ℕ} (r : Fin 2) (a : (⟨2, ![2, n]⟩ : Shape).Idx → BitVec 32) (h : (⟨2, ![2, n]⟩ : Shape).Slices ![r.val, 0] ⟨2, ![1, n]⟩)
    (h' : (⟨2, ![1, n]⟩ : Shape).ShapeCasts ⟨1, ![n]⟩) (j : Fin n) :
    shapeCast ⟨1, ![n]⟩ (extractStridedSlice ⟨2, ![1, n]⟩ ![r.val, 0] a h) h' (ix1 j) = at2 a r.val j.val := by
  rw [cast_row, extractStridedSlice_apply _ a h (ix2 0 j) (ix2 r j) (fun b => by fin_cases b <;> simp)]
  unfold at2
  rw [dif_pos ⟨r.isLt, j.isLt⟩]

/-! ## Where an update lands -/

/-- Update `j` lands at the entry its word names. -/
theorem lands {N M : ℕ} (d : ScatterDims (⟨1, ![N]⟩ : Shape) ⟨2, ![M, 1]⟩ ⟨1, ![M]⟩) (hw : d.insertedWindowDims = [0])
    (hs : d.scatterDimsToOperandDims = [0]) (hv : d.indexVectorDim = 1) (idx : IVec (⟨2, ![M, 1]⟩ : Shape) 32) (j : Fin M) (x : Fin N) :
    d.resultIdx? (ix1 j) idx = some (ix1 x) ↔ (idx (ix2 j (0 : Fin 1))).toInt = (x.val : Int) := by
  have mem : (0 : Fin 1) ∈ d.scatterDimsToOperandDims := by rw [hs]; exact List.mem_singleton.2 rfl
  have mem' : (0 : Fin 1) ∈ d.insertedWindowDims := by rw [hw]; exact List.mem_singleton.2 rfl
  have none : d.window (ix1 j) 0 = 0 := by
    have out : (0 : Fin 1) ∉ d.sKept := fun h => absurd mem' (of_decide_eq_true (List.mem_filter.1 h).2)
    unfold ScatterDims.window
    rw [dif_neg out]
  have place : ∀ c : Fin d.scatterDimsToOperandDims.length, d.siIdx (ix1 j) c = ix2 j (0 : Fin 1) := by
    intro c
    funext b
    match b with
    | ⟨1, _⟩ => exact Subsingleton.elim (α := Fin 1) _ _
    | ⟨0, _⟩ =>
      apply Fin.ext
      unfold ScatterDims.siIdx
      rw [dif_neg (by rw [hv]; exact Nat.zero_ne_one)]
      unfold ScatterDims.siCoord
      simp only [Fin.val_cast]
      exact (fun X : Fin 1 => by rw [Subsingleton.elim X 0]; rfl : ∀ X : Fin 1, (ix1 j X).val = j.val) _
  have first : d.start (ix1 j) idx 0 = (idx (ix2 j (0 : Fin 1))).toInt := by
    unfold ScatterDims.start
    rw [dif_pos mem, place]
  refine (Routing.resultIdx?_ix1 d (ix1 j) idx x).trans ?_
  rw [first, none, Nat.cast_zero, add_zero]

/-- An entry of a scatter that adds: what it held, and the updates whose word names it. -/
theorem scatter_entry {N M : ℕ} (d : ScatterDims (⟨1, ![N]⟩ : Shape) ⟨2, ![M, 1]⟩ ⟨1, ![M]⟩) (hw : d.insertedWindowDims = [0])
    (hs : d.scatterDimsToOperandDims = [0]) (hv : d.indexVectorDim = 1) (z : (⟨1, ![N]⟩ : Shape).Idx → EReal)
    (idx : IVec (⟨2, ![M, 1]⟩ : Shape) 32) (u : (⟨1, ![M]⟩ : Shape).Idx → EReal) (x : Fin N) :
    Ideal.hostScatterAdd d z idx u (ix1 x)
      = z (ix1 x) + ∑ j : Fin M, if (idx (ix2 j (0 : Fin 1))).toInt = (x.val : Int) then u (ix1 j) else 0 := by
  unfold Ideal.hostScatterAdd
  rw [Finset.sum_filter, sum_idx1]
  refine congrArg (z (ix1 x) + ·) (Finset.sum_congr rfl fun j _ => ?_)
  by_cases h : (idx (ix2 j (0 : Fin 1))).toInt = (x.val : Int)
  · rw [if_pos h, if_pos ((lands d hw hs hv idx j x).2 h)]
  · rw [if_neg h, if_neg fun g => h ((lands d hw hs hv idx j x).1 g)]

/-- A sum over the places of two joined vectors is the sum over the first's and over the second's. -/
theorem sum_join {α β : Type} {n k t : ℕ} (ht : t = n + k) (f : α → β → EReal)
    (p : (⟨1, ![n]⟩ : Shape).Idx → α) (q : (⟨1, ![k]⟩ : Shape).Idx → α) (u : (⟨1, ![n]⟩ : Shape).Idx → β) (v : (⟨1, ![k]⟩ : Shape).Idx → β)
    (h : Shape.Concatenates [⟨1, ![n]⟩, ⟨1, ![k]⟩] ⟨1, ![t]⟩ 0) :
    ∑ j : Fin t, f (concatenate ⟨1, ![t]⟩ 0 [⟨⟨1, ![n]⟩, p⟩, ⟨⟨1, ![k]⟩, q⟩] h (ix1 j)) (concatenate ⟨1, ![t]⟩ 0 [⟨⟨1, ![n]⟩, u⟩, ⟨⟨1, ![k]⟩, v⟩] h (ix1 j))
      = (∑ i : Fin n, f (p (ix1 i)) (u (ix1 i))) + ∑ i : Fin k, f (q (ix1 i)) (v (ix1 i)) := by
  subst ht
  rw [Fin.sum_univ_add]
  congr 1
  · refine Finset.sum_congr rfl fun i _ => ?_
    rw [join_left p q h (Fin.castAdd k i) i rfl, join_left u v h (Fin.castAdd k i) i rfl]
  · refine Finset.sum_congr rfl fun i _ => ?_
    have e : i.val + n = (Fin.natAdd n i).val := by simp [Nat.add_comm]
    rw [join_right p q h (Fin.natAdd n i) i e, join_right u v h (Fin.natAdd n i) i e]

/-! ## Counting -/

/-- A word below 100000 read signed is the word. -/
theorem toInt_small (v : BitVec 32) (h : v.toNat < 100000) (x : ℕ) : v.toInt = (x : Int) ↔ v.toNat = x := by
  rw [BitVec.toInt_eq_toNat_cond, if_pos (by omega)]
  omega

/-- The edges of one list that give one to clause `x`, as a sum of extended reals. -/
theorem sum_votes (b : ℕ → Bool) (A : Cert.KernelIdeal.S2x3200000.Idx → BitVec 32) (hA : ∀ r k, (at2 A r k).toNat < 100000) (x : ℕ) :
    (∑ i : Fin 3200000, if (at2 A 0 i.val).toInt = (x : Int) then (if b (at2 A 1 i.val).toNat = true then (1 : EReal) else 0) else 0)
      = ((votes b A x : ℕ) : EReal) := by
  unfold votes
  rw [← Fin.sum_univ_eq_sum_range (fun k => if (at2 A 0 k).toNat = x ∧ b (at2 A 1 k).toNat = true then 1 else 0) 3200000, Nat.cast_sum]
  refine Finset.sum_congr rfl fun i _ => ?_
  by_cases h1 : (at2 A 0 i.val).toNat = x
  · rw [if_pos ((toInt_small _ (hA 0 _) x).2 h1)]
    by_cases h2 : b (at2 A 1 i.val).toNat = true
    · rw [if_pos h2, if_pos ⟨h1, h2⟩, Nat.cast_one]
    · rw [if_neg h2, if_neg fun h => h2 h.2, Nat.cast_zero]
  · rw [if_neg fun h => h1 ((toInt_small _ (hA 0 _) x).1 h), if_neg fun h => h1 h.1, Nat.cast_zero]

/-- A word below 100000 is kept by the wrap of negative indices, and is the number it names. -/
theorem wrap_small (v a : BitVec 32) (h : v.toNat < 100000) :
    Scalar.select (IntOp.cmpi .slt v 0#32) a v = BitVec.ofNat 32 v.toNat := by
  rw [Routing.wrap_of_lt v a (by omega), BitVec.ofNat_toNat, BitVec.setWidth_eq]

end Cert.Proof.Ref

end
-- ==== Proof.FloorHalf.lean ====
/-
  The reference's floor division by one half, on one extended real: one from one half on, zero below, for a value in [0, 1).
-/
module

public import proofs.«01_k».proof.Proof.Bits
public import Idealize.ShloMosaic.PureOps.Ideal.Laws
public import Idealize.ShloMosaic.Lib.IdealHost

@[expose] public section

noncomputable section

namespace Cert.Proof.Ref

open Idealize.ShloMosaic

/-- The pattern of one half. -/
theorem ofBits_half : Ideal.ofBits .f32 0x3F000000#32 = ((1 / 2 : ℝ) : EReal) := by
  simp [Ideal.ofBits, Ideal.ieee, -EReal.coe_mul]; norm_num

/-- The pattern of plus infinity. -/
theorem ofBits_top : Ideal.ofBits .f32 0x7F800000#32 = ⊤ := by simp [Ideal.ofBits, Ideal.ieee]

/-- Floor division by one half as it prints, on one value. -/
def floorHalf (v : EReal) : EReal :=
  Ideal.liftRound Ideal.roundHalfAway
    (Scalar.select
      (IntOp.andi (Ideal.cmp .une (Ideal.remf v (Ideal.ofBits .f32 0x3F000000#32)) (Ideal.ofBits .f32 0x00000000#32))
        (Ideal.cmp .une (Ideal.sign (Ideal.ofBits .f32 0x3F000000#32)) (Ideal.sign (Ideal.remf v (Ideal.ofBits .f32 0x3F000000#32)))))
      (Ideal.div (Scalar.select (Ideal.cmp .oeq (Ideal.ofBits .f32 0x3F000000#32) (Ideal.ofBits .f32 0x00000000#32)) v
        (v - Ideal.remf v (Ideal.ofBits .f32 0x3F000000#32))) (Ideal.ofBits .f32 0x3F000000#32) - Ideal.ofBits .f32 0x3F800000#32)
      (Ideal.div (Scalar.select (Ideal.cmp .oeq (Ideal.ofBits .f32 0x3F000000#32) (Ideal.ofBits .f32 0x00000000#32)) v
        (v - Ideal.remf v (Ideal.ofBits .f32 0x3F000000#32))) (Ideal.ofBits .f32 0x3F000000#32)))

/-- The remainder by one half: the value itself below one half, what is over one half from there on. -/
theorem remf_half (r : ℝ) (h0 : 0 ≤ r) (h1 : r < 1) :
    Ideal.remf (r : EReal) ((1 / 2 : ℝ) : EReal) = ((r - (if 1 / 2 ≤ r then 1 / 2 else 0) : ℝ) : EReal) := by
  show (if (1 / 2 : ℝ) = 0 then (⊥ : EReal) else ((r - 1 / 2 * (Ideal.truncInt (r / (1 / 2)) : ℝ) : ℝ) : EReal)) = _
  rw [if_neg (by norm_num)]
  unfold Ideal.truncInt
  rw [if_pos (by positivity)]
  by_cases h : 1 / 2 ≤ r
  · rw [if_pos h, show ⌊r / (1 / 2)⌋ = 1 from Int.floor_eq_iff.2 ⟨by push_cast; linarith, by push_cast; linarith⟩]
    norm_num
  · rw [if_neg h, show ⌊r / (1 / 2)⌋ = 0 from Int.floor_eq_iff.2 ⟨by push_cast; linarith, by push_cast; linarith⟩]
    norm_num

/-- A remainder that is not negative has one half's sign or is zero: nothing is taken off the quotient. -/
theorem no_step (t : ℝ) (ht : 0 ≤ t) :
    IntOp.andi (Ideal.cmp .une (t : EReal) 0) (Ideal.cmp .une (Ideal.sign ((1 / 2 : ℝ) : EReal)) (Ideal.sign (t : EReal))) = 0#1 := by
  rcases ht.eq_or_lt with h | h
  · subst h
    simp [Ideal.cmp, IntOp.andi]
  · have e : Ideal.sign ((1 / 2 : ℝ) : EReal) = Ideal.sign (t : EReal) := by
      show ((SignType.sign (1 / 2 : ℝ) : ℝ) : EReal) = ((SignType.sign t : ℝ) : EReal)
      rw [sign_pos h, sign_pos (by norm_num)]
    rw [e]
    simp [Ideal.cmp, IntOp.andi]

/-- For a value in [0, 1): one from one half on, zero below. -/
theorem floorHalf_eq (r : ℝ) (h0 : 0 ≤ r) (h1 : r < 1) : floorHalf (r : EReal) = ((if 1 / 2 ≤ r then 1 else 0 : ℝ) : EReal) := by
  unfold floorHalf
  rw [ofBits_half, Ideal.ofBits_zero_f32, remf_half r h0 h1, no_step _ (by split <;> linarith)]
  have hc : Ideal.cmp .oeq ((1 / 2 : ℝ) : EReal) 0 = 0#1 := by
    have : ((1 / 2 : ℝ) : EReal) ≠ 0 := by
      rw [← EReal.coe_zero]; exact fun h => by have := EReal.coe_injective h; norm_num at this
    simp only [Ideal.cmp, this, decide_false]; rfl
  have s0 : ∀ {α : Type} (a b : α), Scalar.select 0#1 a b = b := fun a b => rfl
  rw [hc, s0, s0]
  unfold Ideal.div
  rw [if_neg (by rw [← EReal.coe_zero]; exact fun h => by have := EReal.coe_injective h; norm_num at this), ← EReal.coe_sub, ← EReal.coe_inv, ← EReal.coe_mul]
  show ((Ideal.roundHalfAway _ : ℝ) : EReal) = _
  unfold Ideal.roundHalfAway
  by_cases h : 1 / 2 ≤ r
  · rw [if_pos h, if_pos h, if_pos (by norm_num), show ⌊(r - (r - 1 / 2)) * (1 / 2 : ℝ)⁻¹ + 1 / 2⌋ = 1 from Int.floor_eq_iff.2 ⟨by norm_num, by norm_num⟩]
    norm_num
  · rw [if_neg h, if_neg h, if_pos (by norm_num), show ⌊(r - (r - 0)) * (1 / 2 : ℝ)⁻¹ + 1 / 2⌋ = 0 from Int.floor_eq_iff.2 ⟨by norm_num, by norm_num⟩]
    norm_num

/-- A value of which the two comparisons of the precondition hold is a real in [0, 1). -/
theorem real_of_range (v : EReal) (h0 : Ideal.cmp .oge v 0 = 1#1) (h1 : Ideal.cmp .olt v 1 = 1#1) : ∃ r : ℝ, v = r ∧ 0 ≤ r ∧ r < 1 := by
  have g0 : 0 ≤ v := by
    by_contra h; simp [Ideal.cmp, h] at h0
  have g1 : v < 1 := by
    by_contra h; simp [Ideal.cmp, h] at h1
  lift v to ℝ using ⟨ne_top_of_lt g1, ne_bot_of_gt (lt_of_lt_of_le EReal.bot_lt_zero g0)⟩
  exact ⟨v, rfl, by exact_mod_cast g0, by exact_mod_cast g1⟩

/-- The floor division is the kernel's bit. -/
theorem floorHalf_bit (v : EReal) (h0 : Ideal.cmp .oge v 0 = 1#1) (h1 : Ideal.cmp .olt v 1 = 1#1) :
    floorHalf v = if (Ideal.cmp .oge v (Ideal.ofBits .f32 0x3F000000#32) == 1#1) = true then 1 else 0 := by
  obtain ⟨r, rfl, g0, g1⟩ := real_of_range v h0 h1
  rw [floorHalf_eq r g0 g1, ofBits_half]
  by_cases h : 1 / 2 ≤ r
  · have : ((1 / 2 : ℝ) : EReal) ≤ (r : EReal) := EReal.coe_le_coe_iff.2 h
    rw [if_pos h, if_pos (by simp only [Ideal.cmp, this, decide_true]; rfl)]; rfl
  · have : ¬ ((1 / 2 : ℝ) : EReal) ≤ (r : EReal) := fun g => h (EReal.coe_le_coe_iff.1 g)
    rw [if_neg h, if_neg (by simp only [Ideal.cmp, this, decide_false]; decide)]; rfl

end Cert.Proof.Ref

end
-- ==== Proof.RefVal.lean ====
/-
  The reference's value over the extended reals: the least over the clauses of the clause's count of satisfied literals.
-/
module

public import proofs.«01_k».proof.Proof.Segment
public import proofs.«01_k».proof.Proof.FloorHalf
public import proofs.«01_k».proof.Proof.Gen.ReferenceIdeal.Run

@[expose] public section

noncomputable section

namespace Cert.Proof.Ref

open Idealize.ShloMosaic Idealize.ShloMosaic.TcCoe Cert.ReferenceIdeal Cert.ReferenceIdeal.Gen Cert.Proof.Hist
open Finset (range)

/-! ## The parts of the reference's term -/

/-- One row of an edge list. -/
def rowZero (a : S2x3200000.Idx → BitVec 32) : S3200000.Idx → BitVec 32 :=
  shapeCast S3200000 (extractStridedSlice S1x3200000 ![0, 0] a slices_S2x3200000_S1x3200000_0_0) shapeCasts_S1x3200000_S3200000
/-- The other row of an edge list. -/
def rowOne (a : S2x3200000.Idx → BitVec 32) : S3200000.Idx → BitVec 32 :=
  shapeCast S3200000 (extractStridedSlice S1x3200000 ![1, 0] a slices_S2x3200000_S1x3200000_1_0) shapeCasts_S1x3200000_S3200000
/-- The node of each edge, as the column of indices the lookup takes. -/
def nodes (a : S2x3200000.Idx → BitVec 32) : S3200000x1.Idx → BitVec 32 :=
  broadcastInDim S3200000x1 ![0] bcast_S3200000_S3200000x1_0
    (select (cmpi .slt (rowOne a) (broadcastInDim S3200000 ![] bcast_S_S3200000 (constantI S_ 32 0#32)))
      (addi (rowOne a) (broadcastInDim S3200000 ![] bcast_S_S3200000 (constantI S_ 32 100000#32))) (rowOne a))
/-- The looked-up values of a list's edges. -/
def looked (f : S100000.Idx → EReal) (a : S2x3200000.Idx → BitVec 32) : S3200000.Idx → EReal :=
  Host.gather gather_S100000_S3200000x1_S3200000_n_0_n_n_0_1_1 f (nodes a)
/-- The nodes' values floor-divided by one half. -/
def bits (x : S100000.Idx → EReal) : S100000.Idx → EReal := fun n => floorHalf (x n)
/-- One less each node's value. -/
def clear (x : S100000.Idx → EReal) : S100000.Idx → EReal := fun n => Ideal.ofBits .f32 0x3F800000#32 - bits x n
/-- Each clause's sum. -/
def sums (x : S100000.Idx → EReal) (a b : S2x3200000.Idx → BitVec 32) : S100000.Idx → EReal :=
  Ideal.hostScatterAdd scatter_S100000_S6400000x1_S6400000_n_0_0_1 (fun _ => Ideal.ofBits .f32 0x00000000#32)
    (broadcastInDim S6400000x1 ![0] bcast_S6400000_S6400000x1_0
      (concatenate S6400000 0 [⟨S3200000, rowZero a⟩, ⟨S3200000, rowZero b⟩] concatenates_S3200000_S3200000_S6400000_d0))
    (concatenate S6400000 0 [⟨S3200000, looked (bits x) a⟩, ⟨S3200000, looked (clear x) b⟩] concatenates_S3200000_S3200000_S6400000_d0)

set_option maxRecDepth 8192 in
/-- The reference's value is the least of the sums. -/
theorem res_eq (m : (ℓ : Loc nD τ sig) → Buf (Elt Ideal) ℓ) (c : Dev nD) :
    Cert.ReferenceIdeal.Value.res_main_v30 (F := Ideal) m c
      = (Host.reduce (FloatOps.minimumf (F := Ideal) (φ := .f32)) (sums (m ((c.tc : Thread nD τ).loc main_arg0)) (m ((c.tc : Thread nD τ).loc main_arg1)) (m ((c.tc : Thread nD τ).loc main_arg2)))
          (constant (F := Ideal) S_ .f32 0x7F800000#32) reducesTo_S100000_S_d0 h_S_ : S_.Idx → EReal) := rfl

/-! ## The parts, entry by entry -/

theorem rowZero_apply (a : S2x3200000.Idx → BitVec 32) (j : Fin 3200000) : rowZero a (ix1 j) = at2 a 0 j.val :=
  row_of_table 0 a slices_S2x3200000_S1x3200000_0_0 shapeCasts_S1x3200000_S3200000 j
theorem rowOne_apply (a : S2x3200000.Idx → BitVec 32) (j : Fin 3200000) : rowOne a (ix1 j) = at2 a 1 j.val :=
  row_of_table 1 a slices_S2x3200000_S1x3200000_1_0 shapeCasts_S1x3200000_S3200000 j

theorem nodes_apply (a : S2x3200000.Idx → BitVec 32) (j : Fin 3200000) (h : (at2 a 1 j.val).toNat < 100000) :
    nodes a (ix2 j 0) = BitVec.ofNat 32 (at2 a 1 j.val).toNat := by
  refine (column (by decide) _ _ j).trans ?_
  show Scalar.select (IntOp.cmpi .slt (rowOne a (ix1 j)) 0#32) (IntOp.addi (rowOne a (ix1 j)) 100000#32) (rowOne a (ix1 j)) = _
  rw [rowOne_apply]
  exact wrap_small _ _ h

theorem looked_apply (f : S100000.Idx → EReal) (a : S2x3200000.Idx → BitVec 32) (j : Fin 3200000) (h : (at2 a 1 j.val).toNat < 100000) :
    looked f a (ix1 j) = f (ix1 ⟨(at2 a 1 j.val).toNat, h⟩) :=
  Routing.gather_take1 _ rfl rfl rfl rfl f (nodes a) j ⟨(at2 a 1 j.val).toNat, h⟩ (nodes_apply a j h) (by decide)

/-- What the precondition says of the nodes' values. -/
def InRange (x : S100000.Idx → EReal) : Prop := ∀ n, Ideal.cmp .oge (x n) 0 = 1#1 ∧ Ideal.cmp .olt (x n) 1 = 1#1

theorem bits_apply (x : S100000.Idx → EReal) (hx : InRange x) (n : ℕ) (h : n < 100000) :
    bits x (ix1 ⟨n, h⟩) = if bitOf (F := Ideal) x n = true then 1 else 0 := by
  refine (floorHalf_bit _ (hx _).1 (hx _).2).trans ?_
  unfold bitOf
  rw [dif_pos h]
  rfl

theorem clear_apply (x : S100000.Idx → EReal) (hx : InRange x) (n : ℕ) (h : n < 100000) :
    clear x (ix1 ⟨n, h⟩) = if (!bitOf (F := Ideal) x n) = true then 1 else 0 := by
  unfold clear
  rw [bits_apply x hx n h, Ideal.ofBits_one_f32]
  cases bitOf (F := Ideal) x n
  · exact sub_zero 1
  · exact EReal.sub_self (by decide) (by decide)

/-- A clause's sum is its count of satisfied literals. -/
theorem sums_apply (x : S100000.Idx → EReal) (hx : InRange x) (a b : S2x3200000.Idx → BitVec 32)
    (ha : ∀ r k, (at2 a r k).toNat < 100000) (hb : ∀ r k, (at2 b r k).toNat < 100000) (y : Fin 100000) :
    sums x a b (ix1 y) = ((count (bitOf (F := Ideal) x) a b y.val : ℕ) : EReal) := by
  refine (scatter_entry _ rfl rfl rfl _ _ _ y).trans ?_
  rw [Ideal.ofBits_zero_f32, zero_add]
  refine (Finset.sum_congr rfl fun j _ => ?_).trans
    ((sum_join (k := 3200000) (n := 3200000) (t := 6400000) rfl (fun (w : BitVec 32) (u : EReal) => if w.toInt = (y.val : Int) then u else 0)
      (rowZero a) (rowZero b) (looked (bits x) a) (looked (clear x) b) concatenates_S3200000_S3200000_S6400000_d0).trans ?_)
  · rw [column (by decide)]
  · unfold Hist.count
    rw [Nat.cast_add, ← sum_votes _ a ha, ← sum_votes _ b hb]
    refine congrArg₂ (· + ·) (Finset.sum_congr rfl fun i _ => ?_) (Finset.sum_congr rfl fun i _ => ?_)
    · rw [rowZero_apply, looked_apply _ a i (ha 1 _), bits_apply x hx]
    · rw [rowZero_apply, looked_apply _ b i (hb 1 _), clear_apply x hx]

/-- The reference's value: the least count, where `k` is a clause that has it. -/
theorem res_least (m : (ℓ : Loc nD τ sig) → Buf (Elt Ideal) ℓ) (c : Dev nD) (x : S100000.Idx → EReal) (a b : S2x3200000.Idx → BitVec 32)
    (e0 : m ((c.tc : Thread nD τ).loc main_arg0) = x) (e1 : m ((c.tc : Thread nD τ).loc main_arg1) = a) (e2 : m ((c.tc : Thread nD τ).loc main_arg2) = b)
    (hx : InRange x) (ha : ∀ r k, (at2 a r k).toNat < 100000) (hb : ∀ r k, (at2 b r k).toNat < 100000) (k : ℕ) (hk : k < 100000)
    (least : ∀ y < 100000, count (bitOf (F := Ideal) x) a b k ≤ count (bitOf (F := Ideal) x) a b y) :
    Cert.ReferenceIdeal.Value.res_main_v30 (F := Ideal) m c = fun _ => ((count (bitOf (F := Ideal) x) a b k : ℕ) : EReal) := by
  subst e0 e1 e2
  refine (res_eq m c).trans (funext fun j => ?_)
  refine (Host.reduce_eq_fold (FloatOps.minimumf (F := Ideal) (φ := .f32)) _ _ reducesTo_S100000_S_d0 h_S_ j).trans ?_
  refine (Shape.ReducesTo.fold_fiber_r1_a0 reducesTo_S100000_S_d0 j (FloatOps.minimumf (F := Ideal) (φ := .f32)) _ _).trans ?_
  show (Finset.univ : Finset (Fin 100000)).fold min (Ideal.ofBits .f32 0x7F800000#32) _ = _
  apply le_antisymm
  · refine (Finset.fold_min_le _).2 (Or.inr ⟨⟨k, hk⟩, Finset.mem_univ _, ?_⟩)
    exact le_of_eq (sums_apply _ hx _ _ ha hb ⟨k, hk⟩)
  · refine (Finset.le_fold_min _).2 ⟨by rw [ofBits_top]; exact le_top, fun y _ => ?_⟩
    refine le_of_le_of_eq ?_ (sums_apply _ hx _ _ ha hb y).symm
    exact Nat.cast_le.2 (least y.val y.isLt)

end Cert.Proof.Ref

end
-- ==== Proof.Algebraic.lean ====
/-
  The two programs' values are one: the kernel's least total is the reference's least sum.
-/
module

public import proofs.«01_k».proof.Proof.Frames
public import proofs.«01_k».proof.Proof.Least
public import proofs.«01_k».proof.Proof.RefVal

@[expose] public section

noncomputable section

namespace Cert.Proof

open Idealize.ShloMosaic Idealize.ShloMosaic.TcCoe Idealize.SL.Sem
open Cert.KernelIdeal.Gen Cert.ReferenceIdeal.Gen

/-- From arguments that agree and are in range, the reference's value is the kernel's. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m (Hist.xLoc c))
    (e1 : m' ((c.tc : Thread Cert.ReferenceIdeal.nD Cert.ReferenceIdeal.τ).loc Cert.ReferenceIdeal.main_arg1) = Hist.edgesA m c)
    (e2 : m' ((c.tc : Thread Cert.ReferenceIdeal.nD Cert.ReferenceIdeal.τ).loc Cert.ReferenceIdeal.main_arg2) = Hist.edgesB m c)
    (hx : Ref.InRange (m (Hist.xLoc c))) (hA : Hist.EdgesOk (Hist.edgesA m)) (hB : Hist.EdgesOk (Hist.edgesB m)) :
    Cert.ReferenceIdeal.Value.res_main_v30 (F := Ideal) m' c = fun _ => (Hist.ansOf (F := Ideal) m c : EReal) := by
  obtain ⟨b, k, h, hk, hb, least⟩ := Hist.ansOf_eq (F := Ideal) m c hA hB
  refine (Ref.res_least m' c _ _ _ e0 e1 e2 hx (hA c) (hB c) k hk least).trans (funext fun _ => ?_)
  rw [h, Ideal.scalar_sitofp_def, hb, Int.cast_natCast]
  rfl

theorem algebraic : Cert.algebraic_KernelIdeal_ReferenceIdeal_pre_in_range (hKernelIdeal := Cert.KernelIdeal.Gen.facts) (hReferenceIdeal := Cert.ReferenceIdeal.Gen.facts)
    (hPre_in_range := Cert.Pre_in_range.Gen.facts) := fun m ρ m' ρ' hpre same => by
  have hA : Hist.EdgesOk (Hist.edgesA m) := edgesOk_of _ fun d => (Hist.Pre.in_range (F := Ideal) _ _ _ (hpre d)).2.1
  have hB : Hist.EdgesOk (Hist.edgesB m) := edgesOk_of _ fun d => (Hist.Pre.in_range (F := Ideal) _ _ _ (hpre d)).2.2
  have hx : ∀ d, Ref.InRange (m (Hist.xLoc d)) := fun d n => by
    have h := (Hist.Pre.in_range (F := Ideal) _ _ _ (hpre d)).1 n
    rw [Ideal.ofBits_def, Ideal.ofBits_def, Ideal.ofBits_zero_f32, Ideal.ofBits_one_f32] at h
    exact h
  refine ⟨fun c => fun _ => (Hist.ansOf (F := Ideal) m c : EReal), ?_, ?_⟩
  · exact (θ_run (Cert.KernelIdeal.defs (F := Ideal)) _ _).mono (fun _ h c => ⟨(h.1 c).2.2.2, (h.1 c).1, (h.1 c).2.1, (h.1 c).2.2.1⟩)
      (Hist.run_main (F := Ideal) m ρ hA hB)
  · exact (θ_run (Cert.ReferenceIdeal.defs (F := Ideal)) _ _).mono
      (fun _ h c => ⟨(h c).1.trans (value_eq m m' c (same c).1 (same c).2.1 (same c).2.2 (hx c) hA hB), (h c).2⟩)
      (Cert.ReferenceIdeal.Value.run (F := Ideal) m' ρ')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_edges_in_range
public import Idealize.ShloMosaic.Adequacy
public import Idealize.ShloMosaic.Init
public import proofs.«01_k».proof.Proof.Frames
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_edges_in_range.Gen.facts,
  Cert.Pre_in_range.Gen.facts, frame_kernel, frame_kernelIdeal, frame_kernelIdeal_in_range, frame_reference, fun m ρ _ => frame_reference m ρ trivial, trivial, algebraic⟩

end Cert.Proof

end
